-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_BinnedIdeal (m : (ℓ : Loc Cert.BinnedIdeal.nD Cert.BinnedIdeal.τ Cert.BinnedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_BinnedIdeal [hBinnedIdeal : Cert.BinnedIdeal.Facts] : Prop :=
  ∀ (m : (ℓ : Loc Cert.BinnedIdeal.nD Cert.BinnedIdeal.τ Cert.BinnedIdeal.sig) → Buf (Elt Ideal) ℓ) (g : Dev Cert.BinnedIdeal.nD → PrngReg), Pre_BinnedIdeal m →
    θ_run (Cert.BinnedIdeal.defs (F := Ideal)) (onTc (τ := Cert.BinnedIdeal.τ) (Cert.BinnedIdeal.main (F := Ideal))) ⟨m, fun _ => 0, g⟩ (fun r => (∀ c : Dev Cert.BinnedIdeal.nD,
      r.2.mem ((c.tc : Thread Cert.BinnedIdeal.nD Cert.BinnedIdeal.τ).loc Cert.BinnedIdeal.main_arg0) = m ((c.tc : Thread Cert.BinnedIdeal.nD Cert.BinnedIdeal.τ).loc Cert.BinnedIdeal.main_arg0)
      ∧ r.2.mem ((c.tc : Thread Cert.BinnedIdeal.nD Cert.BinnedIdeal.τ).loc Cert.BinnedIdeal.main_arg1) = m ((c.tc : Thread Cert.BinnedIdeal.nD Cert.BinnedIdeal.τ).loc Cert.BinnedIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_BinnedIdeal [hKernelIdeal : Cert.KernelIdeal.Facts] [hBinnedIdeal : Cert.BinnedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.BinnedIdeal.nD Cert.BinnedIdeal.τ Cert.BinnedIdeal.sig) → Buf (Elt Ideal) ℓ) (g' : Dev Cert.BinnedIdeal.nD → PrngReg), Pre_KernelIdeal m →
    (∀ c : Dev Cert.KernelIdeal.nD,
      m' ((c.tc : Thread Cert.BinnedIdeal.nD Cert.BinnedIdeal.τ).loc Cert.BinnedIdeal.main_arg0) = m ((c.tc : Thread Cert.KernelIdeal.nD Cert.KernelIdeal.τ).loc Cert.KernelIdeal.main_arg0)
      ∧ m' ((c.tc : Thread Cert.BinnedIdeal.nD Cert.BinnedIdeal.τ).loc Cert.BinnedIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.BinnedIdeal.defs (F := Ideal)) (onTc (τ := Cert.BinnedIdeal.τ) (Cert.BinnedIdeal.main (F := Ideal))) ⟨m', fun _ => 0, g'⟩ (fun r => ∀ c : Dev Cert.BinnedIdeal.nD,
          r.2.mem ((c.tc : Thread Cert.BinnedIdeal.nD Cert.BinnedIdeal.τ).loc Cert.BinnedIdeal.main_v31) = v0 c
          ∧ r.2.mem ((c.tc : Thread Cert.BinnedIdeal.nD Cert.BinnedIdeal.τ).loc Cert.BinnedIdeal.main_arg0) = m' ((c.tc : Thread Cert.BinnedIdeal.nD Cert.BinnedIdeal.τ).loc Cert.BinnedIdeal.main_arg0)
          ∧ r.2.mem ((c.tc : Thread Cert.BinnedIdeal.nD Cert.BinnedIdeal.τ).loc Cert.BinnedIdeal.main_arg1) = m' ((c.tc : Thread Cert.BinnedIdeal.nD Cert.BinnedIdeal.τ).loc Cert.BinnedIdeal.main_arg1))

def Claim : Prop :=
  ∃ (hKernel : Cert.Kernel.Facts) (hKernelIdeal : Cert.KernelIdeal.Facts) (hReferenceIdeal : Cert.ReferenceIdeal.Facts) (hBinnedIdeal : Cert.BinnedIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_BinnedIdeal (hBinnedIdeal := hBinnedIdeal)
    ∧ preserves_Kernel_KernelIdeal
    ∧ algebraic_KernelIdeal_ReferenceIdeal_pre_separated (hKernelIdeal := hKernelIdeal) (hReferenceIdeal := hReferenceIdeal) (hPre_separated := hPre_separated)
    ∧ algebraic_KernelIdeal_BinnedIdeal (hKernelIdeal := hKernelIdeal) (hBinnedIdeal := hBinnedIdeal)
-- ==== Pre_separated.lean ====
abbrev S16384 : Shape := ⟨1, ![16384]⟩
abbrev S16384x2 : Shape := ⟨2, ![16384, 2]⟩
abbrev S16384x1 : Shape := ⟨2, ![16384, 1]⟩
abbrev S_ : Shape := ⟨0, ![]⟩
abbrev S16383 : Shape := ⟨1, ![16383]⟩

class Facts : Prop where
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  slices_S16384x2_S16384x1_0_1 : S16384x2.Slices ![0, 1] S16384x1
  slices_S16384_S16383_0 : S16384.Slices ![0] S16383
  bcast_S_S16383 : S_.BroadcastsInDim S16383 (![] : Fin 0 → Fin S16383.rank)
  slices_S16384_S16383_1 : S16384.Slices ![1] S16383

variable [Facts]

variable {F : FTy → Type} [FloatOps F]
def comparator_f32_f32_f32_d0 : F .f32 × F .f32 × F .f32 → F .f32 × F .f32 × F .f32 → BitVec 1 :=
  fun l r =>
    let cst_3 := FloatOps.ofBits .f32 0x00000000#32
    let v20 := FloatOps.cmpf .oeq l.1 cst_3
    let cst_4 := FloatOps.ofBits .f32 0x00000000#32
    let v21 := Scalar.select v20 cst_4 l.1
    let v22 := FloatOps.cmpf .une l.1 l.1
    let cst_5 := FloatOps.ofBits .f32 0x7FC00000#32
    let v23 := Scalar.select v22 cst_5 v21
    let cst_6 := FloatOps.ofBits .f32 0x00000000#32
    let v24 := FloatOps.cmpf .oeq r.1 cst_6
    let cst_7 := FloatOps.ofBits .f32 0x00000000#32
    let v25 := Scalar.select v24 cst_7 r.1
    let v26 := FloatOps.cmpf .une r.1 r.1
    let cst_8 := FloatOps.ofBits .f32 0x7FC00000#32
    let v27 := Scalar.select v26 cst_8 v25
    let v28 := FloatOps.cmpfTotal .lt v23 v27
    v28

def fn_part1 {F : FTy → Type} [FloatOps F] (main_v15 : IVec S16383 1) (main_v16 : FVec F S16383 .f32) (main_v17 : FVec F S16383 .f32) : IVec S16383 1 :=
  let main_v18 : IVec S16383 1 := cmpf .une main_v16 main_v17
  let main_v19 : IVec S16383 1 := ori main_v15 main_v18
  main_v19

def fn {F : FTy → Type} [FloatOps F] (main_arg0 : FVec F S16384 .f32) (main_arg1 : FVec F S16384x2 .f32) : IVec S16383 1 :=
  let main_v0 : FVec F S16384x1 .f32 := (extractStridedSlice S16384x1 ![0, 0] · slices_S16384x2_S16384x1_0_0) main_arg1
  let main_v1 : FVec F S16384 .f32 := shapeCast S16384 main_v0 shapeCasts_S16384x1_S16384
  let main_cst : FVec F S_ .f32 := constant S_ .f32 0x46800000#32
  let main_v2 : FVec F S16384 .f32 := broadcastInDim S16384 ![] bcast_S_S16384 main_cst
  let main_v3 : FVec F S16384 .f32 := mulf main_v1 main_v2
  let main_v4 : FVec F S16384 .f32 := Host.floor main_v3
  let main_cst_0 : FVec F S_ .f32 := constant S_ .f32 0x467FFC00#32
  let main_v5 : FVec F S16384 .f32 := broadcastInDim S16384 ![] bcast_S_S16384 main_cst_0
  let main_v6 : FVec F S16384 .f32 := minimumf main_v4 main_v5
  let main_cst_1 : FVec F S_ .f32 := constant S_ .f32 0x00000000#32
  let main_v7 : FVec F S16384 .f32 := broadcastInDim S16384 ![] bcast_S_S16384 main_cst_1
  let main_v8 : FVec F S16384 .f32 := maximumf main_v6 main_v7
  let main_v9 : FVec F S16384 .f32 := Host.negf main_v1
  let main_v10 : FVec F S16384x1 .f32 := (extractStridedSlice S16384x1 ![0, 1] · slices_S16384x2_S16384x1_0_1) main_arg1
  let main_v11 : FVec F S16384 .f32 := shapeCast S16384 main_v10 shapeCasts_S16384x1_S16384
  let main_v12_0 : FVec F S16384 .f32 := (fun x y z => (Host.sort3 S16384 0 comparator_f32_f32_f32_d0 x y z).1) main_v9 main_v8 main_v11
  let main_v12_1 : FVec F S16384 .f32 := (fun x y z => (Host.sort3 S16384 0 comparator_f32_f32_f32_d0 x y z).2.1) main_v9 main_v8 main_v11
  let main_v12_2 : FVec F S16384 .f32 := (fun x y z => (Host.sort3 S16384 0 comparator_f32_f32_f32_d0 x y z).2.2) main_v9 main_v8 main_v11
  let main_v13 : FVec F S16383 .f32 := (extractStridedSlice S16383 ![0] · slices_S16384_S16383_0) main_v12_2
  let main_cst_2 : FVec F S_ .f32 := constant S_ .f32 0x00000000#32
  let main_v14 : FVec F S16383 .f32 := broadcastInDim S16383 ![] bcast_S_S16383 main_cst_2
  let main_v15 : IVec S16383 1 := cmpf .oeq main_v13 main_v14
  let main_v16 : FVec F S16383 .f32 := (extractStridedSlice S16383 ![0] · slices_S16384_S16383_0) main_v12_1
  let main_v17 : FVec F S16383 .f32 := (extractStridedSlice S16383 ![1] · slices_S16384_S16383_1) main_v12_1
  fn_part1 (F := F) main_v15 main_v16 main_v17
-- ==== Kernel.lean ====
abbrev S16384 : Shape := ⟨1, ![16384]⟩
abbrev S16384x2 : Shape := ⟨2, ![16384, 2]⟩
abbrev S16384x1 : Shape := ⟨2, ![16384, 1]⟩
abbrev S1x1 : Shape := ⟨2, ![1, 1]⟩
abbrev S1x16384x1 : Shape := ⟨3, ![1, 16384, 1]⟩
abbrev S1 : Shape := ⟨1, ![1]⟩
abbrev S1x1x1 : Shape := ⟨3, ![1, 1, 1]⟩
abbrev S1x128 : Shape := ⟨2, ![1, 128]⟩
abbrev S16384x128 : Shape := ⟨2, ![16384, 128]⟩
abbrev S128x128 : Shape := ⟨2, ![128, 128]⟩
abbrev S_ : Shape := ⟨0, ![]⟩

abbrev nBuf : Space → Nat
  | .hbm => 11
  | .vmem => 4
  | .smem => 0
  | _ => 0

abbrev bufTy : (tb : Table) → Fin (tcTables nBuf tb) → BufTy
  | .hbm, ⟨0, _⟩ => ⟨S16384, .f32⟩
  | .hbm, ⟨1, _⟩ => ⟨S16384x2, .f32⟩
  | .hbm, ⟨2, _⟩ => ⟨S16384x1, .f32⟩
  | .hbm, ⟨3, _⟩ => ⟨S16384x1, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S16384, .f32⟩
  | .hbm, ⟨8, _⟩ => ⟨S16384x1, .f32⟩
  | .hbm, ⟨9, _⟩ => ⟨S1x1, .f32⟩
  | .hbm, ⟨10, _⟩ => ⟨S_, .f32⟩
  | .local _ .vmem, ⟨0, _⟩ => ⟨S16384x1, .f32⟩
  | .local _ .vmem, ⟨1, _⟩ => ⟨S16384x1, .f32⟩
  | .local _ .vmem, ⟨2, _⟩ => ⟨S16384x1, .f32⟩
  | .local _ .vmem, ⟨3, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384 : Shape := ⟨1, ![16384]⟩
abbrev S16384x2 : Shape := ⟨2, ![16384, 2]⟩
abbrev S16384x1 : Shape := ⟨2, ![16384, 1]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x2, .f32⟩
  | .hbm, ⟨2, _⟩ => ⟨S16384x1, .f32⟩
  | .hbm, ⟨3, _⟩ => ⟨S16384, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S16384, .i32⟩
  | .hbm, ⟨8, _⟩ => ⟨S16384, .f32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1_0 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call1_call0_cst : Ref sig .tc := ⟨.hbm, 33, rfl⟩
abbrev main_call1_call0_v0 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== BinnedIdeal.lean ====
abbrev S16384 : Shape := ⟨1, ![16384]⟩
abbrev S16384x2 : Shape := ⟨2, ![16384, 2]⟩
abbrev S16384x1 : Shape := ⟨2, ![16384, 1]⟩
abbrev S_ : Shape := ⟨0, ![]⟩
abbrev S1x16384 : Shape := ⟨2, ![1, 16384]⟩
abbrev S16384x16384 : Shape := ⟨2, ![16384, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x2, .f32⟩
  | .hbm, ⟨2, _⟩ => ⟨S16384x1, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S1x16384, .f32⟩
  | .hbm, ⟨24, _⟩ => ⟨S16384x1, .f32⟩
  | .hbm, ⟨25, _⟩ => ⟨S16384x16384, .f32⟩
  | .hbm, ⟨26, _⟩ => ⟨S16384x16384, .f32⟩
  | .hbm, ⟨27, _⟩ => ⟨S16384x16384, .i1⟩
  | .hbm, ⟨28, _⟩ => ⟨S1x16384, .f32⟩
  | .hbm, ⟨29, _⟩ => ⟨S_, .f32⟩
  | .hbm, ⟨30, _⟩ => ⟨S_, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.Cox.lean ====
/- The Cox partial likelihood of `n` samples over the extended reals, and the sums the three programs take for a
   sample's risk set: over the samples whose bin is not below its own (`riskSum`), through a table of 128 by 128 bins
   (`tableSum`), and over the samples up to its place in an order of falling durations (`prefixSum`).
   Nothing here mentions a program. -/
module

public import Idealize.ShloMosaic.PureOps.Ideal.Laws
public import Idealize.ShloMosaic.Lib.IdealHost

@[expose] public section

noncomputable section

namespace Cert.Cox

open Idealize.ShloMosaic

/-- The constant the programs add before a logarithm and to a denominator: the f32 nearest to `1e-8`. -/
def eps : EReal := Ideal.ofBits .f32 0x322BCC77#32

/-- The greatest risk score, the least extended real when there are none. -/
def peak {n : ℕ} (r : Fin n → EReal) : EReal := Finset.univ.fold max ⊥ r

/-- A sample's weight: the exponential of its risk score less the greatest one. -/
def weight {n : ℕ} (r : Fin n → EReal) (i : Fin n) : EReal := Ideal.exp (r i - peak r)

/-- The negated partial log likelihood over the sum of the events, `c i` being the sum of the weights of sample `i`'s
    risk set. -/
def likelihood {n : ℕ} (r e c : Fin n → EReal) : EReal :=
  Ideal.div (-∑ i, (r i - (Ideal.log (c i + eps) + peak r)) * e i) (∑ i, e i + eps)

/-! ## Risk sums -/

/-- The sum of the weights of the samples whose bin is not below sample `i`'s. -/
def riskSum {n : ℕ} {K : Type} [LinearOrder K] (k : Fin n → K) (w : Fin n → EReal) (i : Fin n) : EReal :=
  ∑ j, if k i ≤ k j then w j else 0

/-- The risk sums depend on the bins through their order only. -/
theorem riskSum_congr {n : ℕ} {K K' : Type} [LinearOrder K] [LinearOrder K'] (k : Fin n → K) (k' : Fin n → K')
    (h : ∀ i j, k i ≤ k j ↔ k' i ≤ k' j) (w : Fin n → EReal) : riskSum k w = riskSum k' w := by
  funext i
  exact Finset.sum_congr rfl fun j _ => if_congr (h i j) rfl rfl

/-- The weight in the table's cell `(a, b)`: of the samples with high part `a` and low part `b`. -/
def cell {n : ℕ} (hi lo : Fin n → Fin 128) (w : Fin n → EReal) (a b : Fin 128) : EReal :=
  ∑ j, if hi j = a then (if lo j = b then w j else 0) else 0

/-- The weight in the table's rows above row `a`. -/
def above {n : ℕ} (hi lo : Fin n → Fin 128) (w : Fin n → EReal) (a : Fin 128) : EReal :=
  ∑ a', if a < a' then ∑ b, cell hi lo w a' b else 0

/-- The weight in row `a` of the table, from column `b` on. -/
def along {n : ℕ} (hi lo : Fin n → Fin 128) (w : Fin n → EReal) (a b : Fin 128) : EReal :=
  ∑ b', if b ≤ b' then cell hi lo w a b' else 0

/-- A sample's sum read off the table: the rows above its own, and its own row from its column on. -/
def tableSum {n : ℕ} (hi lo : Fin n → Fin 128) (w : Fin n → EReal) (i : Fin n) : EReal :=
  above hi lo w (hi i) + along hi lo w (hi i) (lo i)

/-- A row of the table sums to the weight of the samples with that high part. -/
theorem sum_cell {n : ℕ} (hi lo : Fin n → Fin 128) (w : Fin n → EReal) (a : Fin 128) :
    ∑ b, cell hi lo w a b = ∑ j, if hi j = a then w j else 0 := by
  unfold cell
  rw [Finset.sum_comm]
  refine Finset.sum_congr rfl fun j _ => ?_
  by_cases h : hi j = a
  · simp [h]
  · simp [h]

/-- The rows above row `a` hold the weight of the samples with a greater high part. -/
theorem above_eq {n : ℕ} (hi lo : Fin n → Fin 128) (w : Fin n → EReal) (a : Fin 128) :
    above hi lo w a = ∑ j, if a < hi j then w j else 0 := by
  unfold above
  simp only [sum_cell]
  have e : ∀ a' : Fin 128, (if a < a' then ∑ j, (if hi j = a' then w j else 0) else 0)
      = ∑ j, if a < a' then (if hi j = a' then w j else 0) else 0 := fun a' => by
    by_cases h : a < a' <;> simp [h]
  simp only [e]
  rw [Finset.sum_comm]
  refine Finset.sum_congr rfl fun j _ => ?_
  rw [Finset.sum_eq_single (hi j)]
  · simp
  · intro a' _ h
    rw [if_neg (Ne.symm h)]
    simp
  · intro h
    exact absurd (Finset.mem_univ _) h

/-- Row `a` from column `b` on holds the weight of the samples with that high part and a low part not below `b`. -/
theorem along_eq {n : ℕ} (hi lo : Fin n → Fin 128) (w : Fin n → EReal) (a b : Fin 128) :
    along hi lo w a b = ∑ j, if hi j = a ∧ b ≤ lo j then w j else 0 := by
  unfold along cell
  have e : ∀ b' : Fin 128, (if b ≤ b' then ∑ j, (if hi j = a then (if lo j = b' then w j else 0) else 0) else 0)
      = ∑ j, if b ≤ b' then (if hi j = a then (if lo j = b' then w j else 0) else 0) else 0 := fun b' => by
    by_cases h : b ≤ b' <;> simp [h]
  simp only [e]
  rw [Finset.sum_comm]
  refine Finset.sum_congr rfl fun j _ => ?_
  rw [Finset.sum_eq_single (lo j)]
  · by_cases h : hi j = a <;> by_cases h' : b ≤ lo j <;> simp [h, h']
  · intro b' _ h
    rw [if_neg (Ne.symm h)]
    simp
  · intro h
    exact absurd (Finset.mem_univ _) h

/-- THE TABLE'S SUM is the risk sum over bins numbered `128 * high + low`. -/
theorem tableSum_eq {n : ℕ} (hi lo : Fin n → Fin 128) (w : Fin n → EReal) (k : Fin n → ℕ)
    (hk : ∀ i, k i = 128 * (hi i).val + (lo i).val) : tableSum hi lo w = riskSum k w := by
  funext i
  unfold tableSum riskSum
  rw [above_eq, along_eq, ← Finset.sum_add_distrib]
  refine Finset.sum_congr rfl fun j _ => ?_
  have hi' := hk i
  have hj' := hk j
  have l1 := (lo i).isLt
  have l2 := (lo j).isLt
  rcases lt_trichotomy (hi i) (hi j) with h | h | h
  · have h1 : ¬ (hi j = hi i ∧ lo i ≤ lo j) := fun c => absurd c.1 (ne_of_gt h)
    have hv : (hi i).val < (hi j).val := h
    rw [if_pos h, if_neg h1, if_pos (by omega), add_zero]
  · have hv : (hi i).val = (hi j).val := congrArg Fin.val h
    rw [if_neg (by rw [h]; exact lt_irrefl _), zero_add]
    refine if_congr ⟨fun c => ?_, fun c => ⟨h.symm, ?_⟩⟩ rfl rfl
    · have : (lo i).val ≤ (lo j).val := c.2
      omega
    · show (lo i).val ≤ (lo j).val
      omega
  · have h1 : ¬ (hi j = hi i ∧ lo i ≤ lo j) := fun c => absurd c.1 (ne_of_lt h)
    have hv : (hi j).val < (hi i).val := h
    rw [if_neg (not_lt_of_gt h), if_neg h1, if_neg (by omega), add_zero]

/-! ## The order of falling durations -/

/-- The sum of the weights of the samples the order `σ` puts at place `p` or before it. -/
def prefixSum {n : ℕ} (σ : Fin n → Fin n) (w : Fin n → EReal) (p : Fin n) : EReal :=
  ∑ q, if q ≤ p then w (σ q) else 0

/-- If bins fall along the order `σ` and the sample at place `p` is the last of its bin there, its prefix sum is its
    risk sum. -/
theorem prefixSum_eq {n : ℕ} {K : Type} [LinearOrder K] (σ : Fin n → Fin n) (hσ : Function.Bijective σ) (k : Fin n → K)
    (hk : ∀ p q, p ≤ q → k (σ q) ≤ k (σ p)) (w : Fin n → EReal) (p : Fin n)
    (hp : ∀ q : Fin n, q.val = p.val + 1 → k (σ p) ≠ k (σ q)) : prefixSum σ w p = riskSum k w (σ p) := by
  unfold prefixSum riskSum
  rw [← Function.Bijective.sum_comp hσ (fun j => if k (σ p) ≤ k j then w j else 0)]
  refine Finset.sum_congr rfl fun q _ => if_congr ⟨fun h => hk q p h, fun h => ?_⟩ rfl rfl
  by_contra hq
  have hlt : p.val < q.val := lt_of_not_ge hq
  have hb : p.val + 1 < n := lt_of_le_of_lt hlt q.isLt
  have h1 : k (σ q) ≤ k (σ ⟨p.val + 1, hb⟩) := hk ⟨p.val + 1, hb⟩ q hlt
  have h2 : k (σ ⟨p.val + 1, hb⟩) ≤ k (σ p) := hk p ⟨p.val + 1, hb⟩ (Nat.le_succ _)
  exact hp ⟨p.val + 1, hb⟩ rfl (le_antisymm (h.trans h1) h2)

/-- The greatest risk score does not depend on the order of the samples. -/
theorem peak_comp {n : ℕ} (σ : Fin n → Fin n) (hσ : Function.Bijective σ) (r : Fin n → EReal) :
    peak (fun p => r (σ p)) = peak r := by
  have h : (Finset.univ : Finset (Fin n)).map (Equiv.ofBijective σ hσ).toEmbedding = Finset.univ :=
    Finset.map_univ_equiv _
  unfold peak
  conv_rhs => rw [← h, Finset.fold_map]
  rfl

/-- THE SORTED LIKELIHOOD. If bins fall along the order `σ` and every sample whose event is not zero is the last of its
    bin there, the likelihood taken in the order `σ` with its prefix sums is the likelihood with the risk sums of the
    bins. -/
theorem likelihood_sorted {n : ℕ} {K : Type} [LinearOrder K] (σ : Fin n → Fin n) (hσ : Function.Bijective σ)
    (k : Fin n → K) (hk : ∀ p q, p ≤ q → k (σ q) ≤ k (σ p)) (r e : Fin n → EReal)
    (he : ∀ p q : Fin n, q.val = p.val + 1 → e (σ p) = 0 ∨ k (σ p) ≠ k (σ q)) :
    likelihood (fun p => r (σ p)) (fun p => e (σ p)) (prefixSum σ (weight r)) = likelihood r e (riskSum k (weight r)) := by
  unfold likelihood
  rw [peak_comp σ hσ, Function.Bijective.sum_comp hσ e]
  congr 2
  rw [← Function.Bijective.sum_comp hσ (fun i => (r i - (Ideal.log (riskSum k (weight r) i + eps) + peak r)) * e i)]
  refine Finset.sum_congr rfl fun p _ => ?_
  dsimp only
  by_cases h0 : e (σ p) = 0
  · rw [h0, mul_zero, mul_zero]
  · rw [prefixSum_eq σ hσ k hk (weight r) p fun q hq => (he p q hq).resolve_left h0]

end Cert.Cox

end
-- ==== Proof.Bins.lean ====
/- A duration's bin, as the reference programs and the precondition compute it (`bin`, an extended real) and as the kernel
   does (`binWord`, a 32-bit word): the two are one number below 16384 (`binNat`), and greater durations have no smaller
   bins. -/
module

public import proofs.«01_k».proof.Proof.Cox
public import Idealize.ShloMosaic.Lib.WordCmp

@[expose] public section

noncomputable section

namespace Cert.Cox

open Idealize.ShloMosaic

/-- The number of bins as the programs' f32 constant. -/
theorem ofBits_bins : Ideal.ofBits .f32 0x46800000#32 = ((16384 : ℝ) : EReal) := by
  simp [Ideal.ofBits, Ideal.ieee]
  rw [← EReal.coe_mul]
  norm_num

/-- The last bin as the programs' f32 constant. -/
theorem ofBits_last : Ideal.ofBits .f32 0x467FFC00#32 = ((16383 : ℝ) : EReal) := by
  simp [Ideal.ofBits, Ideal.ieee]
  rw [← EReal.coe_mul]
  norm_num

/-- A duration times the number of bins, rounded down and capped at the last bin. -/
def capped (x : EReal) : EReal :=
  min (Ideal.liftRound Int.floor (x * Ideal.ofBits .f32 0x46800000#32)) (Ideal.ofBits .f32 0x467FFC00#32)

/-- The bin of a duration, an extended real. -/
def bin (x : EReal) : EReal := max (capped x) 0

/-- The bin of a duration, a 32-bit word: the capped number converted to an integer, and raised to zero. -/
def binWord (x : EReal) : BitVec 32 := IntOp.maxsi (Ideal.fptosi 32 (capped x)) 0#32

/-- The bin of a duration, a natural number. -/
def binNat (x : EReal) : ℕ := (binWord x).toNat

/-- Rounding down is monotone on the extended reals. -/
theorem floor_mono : Monotone (Ideal.liftRound Int.floor) := by
  intro x y h
  induction x with
  | bot => exact bot_le
  | top => rw [top_le_iff.mp h]
  | coe a =>
    induction y with
    | bot => exact absurd h (by simp)
    | top => exact le_top
    | coe b =>
      rw [Ideal.liftRound_coe, Ideal.liftRound_coe]
      exact EReal.coe_le_coe_iff.mpr (Int.cast_le.mpr (Int.floor_le_floor (EReal.coe_le_coe_iff.mp h)))

/-- A greater duration has no smaller bin. -/
theorem bin_mono : Monotone bin := by
  intro x y h
  refine max_le_max (min_le_min (floor_mono ?_) le_rfl) le_rfl
  rw [ofBits_bins]
  exact mul_le_mul_of_nonneg_right h (by exact_mod_cast (by norm_num : (0 : ℝ) ≤ 16384))

/-- The capped number is the least extended real or an integer not above the last bin. -/
theorem capped_cases (x : EReal) : capped x = ⊥ ∨ ∃ z : ℤ, z ≤ 16383 ∧ capped x = ((z : ℝ) : EReal) := by
  unfold capped
  rw [ofBits_last]
  generalize x * Ideal.ofBits .f32 0x46800000#32 = y
  induction y with
  | bot => exact Or.inl (by simp)
  | top => exact Or.inr ⟨16383, le_rfl, by simp⟩
  | coe a =>
    refine Or.inr ⟨min ⌊a⌋ 16383, min_le_right _ _, ?_⟩
    rw [Ideal.liftRound_coe]
    rcases le_total ⌊a⌋ 16383 with h | h
    · rw [min_eq_left h, min_eq_left]
      exact EReal.coe_le_coe_iff.mpr (by exact_mod_cast h)
    · rw [min_eq_right h, min_eq_right]
      · norm_num
      · exact EReal.coe_le_coe_iff.mpr (by exact_mod_cast h)

/-- The signed maximum of an integer's word and zero is the word of its non-negative part. -/
theorem toNat_maxsi_zero (z : ℤ) (h₀ : -2147483648 ≤ z) (h₁ : z ≤ 16383) :
    (IntOp.maxsi (BitVec.ofInt 32 z) 0#32).toNat = z.toNat := by
  have ht : (BitVec.ofInt 32 z).toInt = z := by
    rw [BitVec.toInt_ofInt]
    exact Int.bmod_eq_of_le (by norm_num; omega) (by norm_num; omega)
  unfold IntOp.maxsi
  by_cases hz : 0 < z
  · rw [if_pos (by rw [BitVec.slt, ht]; simpa using hz)]
    rw [BitVec.toInt_eq_toNat_cond] at ht
    split at ht <;> omega
  · rw [if_neg (by rw [BitVec.slt, ht]; simpa using hz)]
    simp
    omega

/-- The word and the extended real are one natural number below 16384. -/
theorem bin_facts (x : EReal) : binNat x < 16384 ∧ bin x = ((binNat x : ℝ) : EReal) := by
  unfold bin binNat binWord
  rcases capped_cases x with h | ⟨z, hz, h⟩
  · have e : (IntOp.maxsi (Ideal.fptosi 32 ⊥) 0#32).toNat = 0 := by
      unfold Ideal.fptosi
      rw [Ideal.toIntClamped_bot]
      exact toNat_maxsi_zero _ (by norm_num) (by norm_num)
    rw [h, e]
    exact ⟨by norm_num, by simp⟩
  · have e : (IntOp.maxsi (Ideal.fptosi 32 ((z : ℝ) : EReal)) 0#32).toNat = z.toNat := by
      unfold Ideal.fptosi
      rw [Ideal.toIntClamped_coe, Int.floor_intCast, Int.ceil_intCast, ite_self]
      refine (toNat_maxsi_zero _ (le_trans (by norm_num) (le_max_left _ _)) (max_le (by norm_num) (min_le_of_right_le hz))).trans ?_
      norm_num
      omega
    rw [h, e]
    refine ⟨by omega, ?_⟩
    rcases le_total 0 z with h0 | h0
    · have hc : ((z.toNat : ℝ)) = (z : ℝ) := by exact_mod_cast Int.toNat_of_nonneg h0
      rw [hc, max_eq_left]
      exact_mod_cast h0
    · rw [Int.toNat_of_nonpos h0, max_eq_right]
      · simp
      · exact_mod_cast h0

/-- The word is the natural number's. -/
theorem binWord_eq (x : EReal) : binWord x = BitVec.ofNat 32 (binNat x) := by
  unfold binNat
  simp

/-- The high part of a duration's bin: the row of the kernel's table. -/
def binHi (x : EReal) : Fin 128 := ⟨binNat x / 128, by have := (bin_facts x).1; omega⟩

/-- The low part of a duration's bin: the column of the kernel's table. -/
def binLo (x : EReal) : Fin 128 := ⟨binNat x % 128, by omega⟩

/-- A bin is put together from its two parts. -/
theorem binNat_parts (x : EReal) : binNat x = 128 * (binHi x).val + (binLo x).val := by
  show binNat x = 128 * (binNat x / 128) + binNat x % 128
  omega

/-- The bin's word shifted right by seven is its high part. -/
theorem shift_binWord (x : EReal) : IntOp.shrsi .vector (binWord x) 7#32 = BitVec.ofNat 32 (binHi x).val := by
  have hb := (bin_facts x).1
  rw [binWord_eq]
  unfold IntOp.shrsi
  rw [if_pos (by decide)]
  have hm : (BitVec.ofNat 32 (binNat x)).msb = false := by
    rw [BitVec.msb_eq_decide]
    simp
    omega
  show (BitVec.ofNat 32 (binNat x)).sshiftRight 7 = _
  rw [BitVec.sshiftRight_eq_of_msb_false hm]
  apply BitVec.eq_of_toNat_eq
  simp only [BitVec.toNat_ushiftRight, BitVec.toNat_ofNat, binHi, Nat.shiftRight_eq_div_pow]
  omega

/-- The bin's word with the bits from the seventh on cleared is its low part. -/
theorem mask_binWord (x : EReal) : IntOp.andi (binWord x) 127#32 = BitVec.ofNat 32 (binLo x).val := by
  have hb := (bin_facts x).1
  rw [binWord_eq]
  unfold IntOp.andi
  apply BitVec.eq_of_toNat_eq
  simp only [BitVec.toNat_and, BitVec.toNat_ofNat, binLo]
  rw [show 127 % 2 ^ 32 = 2 ^ 7 - 1 from rfl, Nat.and_two_pow_sub_one_eq_mod]
  omega

/-- The bins as natural numbers are ordered as the bins as extended reals. -/
theorem binNat_le_iff (x y : EReal) : binNat x ≤ binNat y ↔ bin x ≤ bin y := by
  rw [(bin_facts x).2, (bin_facts y).2, EReal.coe_le_coe_iff, Nat.cast_le]

end Cert.Cox

end
-- ==== Proof.Reads.lean ====
/- Operations on arrays of extended reals read at an index, as the kernel and the reference programs use them: a column
   and its sum and maximum, a table of indicators, the product of two arrays contracted over their rows or plainly. -/
module

public import proofs.«01_k».proof.Proof.Cox
public import Idealize.ShloMosaic.Lib.MatmulPlain
public import Idealize.ShloMosaic.Lib.ValueIdx
public import Idealize.ShloMosaic.Lib.ValueIdxRank1
public import Idealize.ShloMosaic.Lib.Pipeline.Value
public import Idealize.ShloMosaic.Lib.WordCmp

@[expose] public section

noncomputable section

namespace Cert.Cox

open Idealize.ShloMosaic Idealize.ShloMosaic.ValueIdx
open scoped BigOperators

/-! ## Columns -/

/-- A column of `n` entries as a function of the row. -/
abbrev col {n : ℕ} {α : Type} (x : (⟨2, ![n, 1]⟩ : Shape).Idx → α) (i : Fin n) : α := x (ix2 i 0)

/-- The places of a column are its rows. -/
def colEquiv {n : ℕ} : Fin n ≃ (⟨2, ![n, 1]⟩ : Shape).Idx where
  toFun i := ix2 i 0
  invFun j := j 0
  left_inv _ := rfl
  right_inv j := by
    rw [eq_ix2 j]
    exact congrArg (ix2 (j 0)) (Subsingleton.elim (α := Fin 1) _ _)

/-- A sum over the places of a column is the sum over its rows. -/
theorem sum_col {n : ℕ} (x : (⟨2, ![n, 1]⟩ : Shape).Idx → EReal) : ∑ j, x j = ∑ i, col x i :=
  (Equiv.sum_comp colEquiv x).symm

/-- A maximum taken over one index set is the maximum over another in bijection with it. -/
theorem fold_equiv {ι κ : Type} [Fintype ι] [Fintype κ] (f : ι ≃ κ) (x : κ → EReal) :
    Finset.univ.fold max ⊥ x = Finset.univ.fold max ⊥ fun i => x (f i) := by
  have h : (Finset.univ : Finset ι).map f.toEmbedding = Finset.univ := Finset.map_univ_equiv f
  rw [← h, Finset.fold_map]
  rfl

/-- The maximum over the places of a column is the greatest entry of its rows. -/
theorem fold_col {n : ℕ} (x : (⟨2, ![n, 1]⟩ : Shape).Idx → EReal) : Finset.univ.fold max ⊥ x = peak (col x) :=
  fold_equiv colEquiv x

/-- A reshaped array has the same sum. -/
theorem sum_shapeCast {s t : Shape} (x : s.Idx → EReal) (h : s.ShapeCasts t) : ∑ j, shapeCast t x h j = ∑ i, x i :=
  Equiv.sum_comp (Shape.reshapeEquiv h) x

/-- A reshaped array has the same maximum. -/
theorem fold_shapeCast {s t : Shape} (x : s.Idx → EReal) (h : s.ShapeCasts t) :
    Finset.univ.fold max ⊥ (shapeCast t x h) = Finset.univ.fold max ⊥ x :=
  (fold_equiv (Shape.reshapeEquiv h) x).symm

/-- The f32 word of minus infinity is the least extended real. -/
theorem ofBits_bot : Ideal.ofBits .f32 0xFF800000#32 = ⊥ := by
  simp [Ideal.ofBits, Ideal.ieee]

/-- A reduction by the maximum to a single entry is the maximum of all the entries. -/
theorem maximum_total {s t : Shape} {axes : List (Fin s.rank)} (x : FVec Ideal s .f32) (h : s.Reduces axes t)
    (ht : ∀ b, t.size b = 1) (hφ : FKind.Formats .f32) (hacc : 0xFF800000#32 = FKind.maximumf.neutral .f32 hφ) (j : t.Idx) :
    multiReduction .maximumf axes t x 0xFF800000#32 h hφ hacc j = Finset.univ.fold max ⊥ x := by
  rw [multiReduction_maximumf_eq_fold, Finset.filter_true_of_mem fun i _ => funext fun b => Fin.ext (by
    have := (h.drop i b).isLt; have := (j b).isLt; have := ht b; omega), Ideal.ofBits_def, ofBits_bot]
  rfl

/-! ## Indicators -/

/-- A truth value widened to a word and converted is the number one or zero. -/
theorem indicator (b : Bool) :
    (FloatOps.sitofp (F := Ideal) .f32 ((BitVec.ofBool b).setWidth 32) : EReal) = if b then 1 else 0 := by
  show ((((BitVec.ofBool b).setWidth 32).toInt : ℝ) : EReal) = _
  cases b
  · simp
  · have : ((BitVec.ofBool true).setWidth 32).toInt = 1 := by decide
    rw [this]
    simp

/-- A product with an indicator on the left. -/
theorem ite_mul' (p : Prop) [Decidable p] (x : EReal) : (if p then (1 : EReal) else 0) * x = if p then x else 0 := by
  split <;> simp

/-- A product with an indicator on the right. -/
theorem mul_ite' (p : Prop) [Decidable p] (x : EReal) : x * (if p then (1 : EReal) else 0) = if p then x else 0 := by
  split <;> simp

/-! ## Products of arrays -/

/-- `[M, K]` by `[K, N]` into zeros, at `(a, b)`. -/
theorem product_plain {M K N : ℕ} (d : DotDims ⟨2, ![M, K]⟩ ⟨2, ![K, N]⟩ ⟨2, ![M, N]⟩) (hd : d = DotDims.plain M K N)
    (x : FVec Ideal ⟨2, ![M, K]⟩ .f32) (y : FVec Ideal ⟨2, ![K, N]⟩ .f32) (a : Fin M) (b : Fin N) :
    matmul d none x y (constant ⟨2, ![M, N]⟩ .f32 0x00000000#32) (ix2 a b) = ∑ k : Fin K, x (ix2 a k) * y (ix2 k b) := by
  subst hd
  refine (Ideal.matmul_plain_apply none x y _ a b).trans ?_
  rw [constant_apply, Ideal.ofBits_zero_f32, zero_add]

/-- `[K, M]` by `[K, N]` contracted over the rows of both, into zeros, at `(a, b)`. -/
theorem product_rows {M K N : ℕ} (w : DotDims.WF ⟨2, ![K, M]⟩ ⟨2, ![K, N]⟩ ⟨2, ![M, N]⟩ [0] [0] [1] [1] [] [])
    (x : FVec Ideal ⟨2, ![K, M]⟩ .f32) (y : FVec Ideal ⟨2, ![K, N]⟩ .f32) (a : Fin M) (b : Fin N) :
    matmul (⟨[0], [0], [1], [1], [], [], w⟩ : DotDims ⟨2, ![K, M]⟩ ⟨2, ![K, N]⟩ ⟨2, ![M, N]⟩) none x y
      (constant ⟨2, ![M, N]⟩ .f32 0x00000000#32) (ix2 a b) = ∑ k : Fin K, x (ix2 k a) * y (ix2 k b) := by
  refine (Ideal.matmul_apply _ none x y _ _).trans ?_
  rw [constant_apply, Ideal.ofBits_zero_f32, zero_add,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun k _ => ?_
  have hk := contrEquiv1_symm_val (⟨[0], [0], [1], [1], [], [], w⟩ : DotDims ⟨2, ![K, M]⟩ ⟨2, ![K, N]⟩ ⟨2, ![M, N]⟩) K rfl rfl k
  have el : (⟨[0], [0], [1], [1], [], [], w⟩ : DotDims ⟨2, ![K, M]⟩ ⟨2, ![K, N]⟩ ⟨2, ![M, N]⟩).lhsIdx (ix2 a b)
      ((contrEquiv1 _ K rfl rfl).symm k) = ix2 k a := by
    funext c; apply Fin.ext
    match c with
    | ⟨0, _⟩ => exact hk
    | ⟨1, _⟩ => rfl
  have er : (⟨[0], [0], [1], [1], [], [], w⟩ : DotDims ⟨2, ![K, M]⟩ ⟨2, ![K, N]⟩ ⟨2, ![M, N]⟩).rhsIdx (ix2 a b)
      ((contrEquiv1 _ K rfl rfl).symm k) = ix2 k b := by
    funext c; apply Fin.ext
    match c with
    | ⟨0, _⟩ => exact hk
    | ⟨1, _⟩ => rfl
  rw [el, er]

end Cert.Cox

end
-- ==== Proof.KernelTable.lean ====
/- The kernel's values read at an index: its greatest risk score, its bins, its two arrays of indicators, its table of
   weights and the one number it stores, which is the likelihood with the table's sums. -/
module

public import proofs.«01_k».proof.Proof.Bins
public import proofs.«01_k».proof.Proof.Reads
public import proofs.«01_k».proof.Proof.Gen.KernelIdeal.Skeleton
public import Idealize.ShloMosaic.Lib.Pointwise.Reduce

@[expose] public section

noncomputable section

namespace Cert.Cox

open Idealize.ShloMosaic hiding ix1 ix2 ix3
open Idealize.ShloMosaic.ValueIdx Cert.KernelIdeal Cert.KernelIdeal.Gen
open scoped BigOperators

/-- The samples' rows of the table. -/
abbrev rowOf (d : FVec Ideal S16384x1 .f32) (i : Fin 16384) : Fin 128 := binHi (col d i)
/-- The samples' columns of the table. -/
abbrev colOf (d : FVec Ideal S16384x1 .f32) (i : Fin 16384) : Fin 128 := binLo (col d i)

/-- The kernel's copy of the risk scores is the risk scores. -/
theorem scores_eq (x : FVec Ideal S16384x1 .f32) : k0_pay2 (F := Ideal) x = x := shapeCast_self _ _

/-- The kernel's copy of the events is the events. -/
theorem events_eq (x : FVec Ideal S16384x1 .f32) : k0_pay3 (F := Ideal) x = x := shapeCast_self _ _

/-- The kernel's greatest risk score. -/
theorem peak_eq (x : FVec Ideal S16384x1 .f32) : k0_pay4 (F := Ideal) x = peak (col x) := by
  unfold k0_pay4
  rw [scores_eq]
  refine (shapeCast_apply _ _ _ (ix1 0) (by rfl)).trans ?_
  refine (maximum_total _ _ (fun b => by fin_cases b; rfl) _ _ _).trans ?_
  rw [fold_shapeCast, fold_col]

/-- The kernel's bins. -/
theorem bins_eq (d : FVec Ideal S16384x1 .f32) (j : S16384x1.Idx) : k0_pay5 (F := Ideal) d j = binWord (d j) := by
  unfold k0_pay5
  rw [shapeCast_self]
  rfl

/-- The indicators of the rows. -/
theorem rows_eq (d : FVec Ideal S16384x1 .f32) (i : Fin 16384) (a : Fin 128) :
    k0_pay6 (F := Ideal) d (ix2 i a) = if rowOf d i = a then 1 else 0 := by
  have h : k0_pay6 (F := Ideal) d (ix2 i a)
      = FloatOps.sitofp .f32 ((BitVec.ofBool (decide (rowOf d i = a))).setWidth 32) := by
    unfold k0_pay6
    rw [sitofp_apply, extui_apply]
    congr 2
    show IntOp.cmpi .eq _ _ = _
    rw [broadcastTo_apply _ _ _ (ix2 i 0) (by intro c; match c with | ⟨0, _⟩ => rfl | ⟨1, _⟩ => rfl),
      broadcastTo_apply _ _ _ (ix2 0 a) (by intro c; match c with | ⟨0, _⟩ => rfl | ⟨1, _⟩ => rfl)]
    have e1 : shrsi (k0_pay5 (F := Ideal) d) (broadcast S16384x1 7#32) (ix2 i 0) = BitVec.ofNat 32 (rowOf d i).val := by
      show IntOp.shrsi .vector (k0_pay5 (F := Ideal) d (ix2 i 0)) 7#32 = _
      rw [bins_eq, shift_binWord]
    have e2 : iota .tc S1x128 32 [1] iota_S1x128_d1_w32 (ix2 0 a) = BitVec.ofNat 32 a.val := by
      show BitVec.ofNat 32 (0 * 128 + a.val) = _
      rw [Nat.zero_mul, Nat.zero_add]
    have l1 := (rowOf d i).isLt
    have l2 := a.isLt
    refine (congrArg₂ (IntOp.cmpi .eq) e1 e2).trans ?_
    rw [WordCmp.cmpi_eq_ofNat (by omega) (by omega)]
    exact congrArg BitVec.ofBool (decide_eq_decide.mpr Fin.ext_iff.symm)
  rw [h, indicator]
  simp

/-- The indicators of the columns. -/
theorem cols_eq (d : FVec Ideal S16384x1 .f32) (i : Fin 16384) (b : Fin 128) :
    k0_pay7 (F := Ideal) d (ix2 i b) = if colOf d i = b then 1 else 0 := by
  have h : k0_pay7 (F := Ideal) d (ix2 i b)
      = FloatOps.sitofp .f32 ((BitVec.ofBool (decide (colOf d i = b))).setWidth 32) := by
    unfold k0_pay7
    rw [sitofp_apply, extui_apply]
    congr 2
    show IntOp.cmpi .eq _ _ = _
    rw [broadcastTo_apply _ _ _ (ix2 i 0) (by intro c; match c with | ⟨0, _⟩ => rfl | ⟨1, _⟩ => rfl),
      broadcastTo_apply _ _ _ (ix2 0 b) (by intro c; match c with | ⟨0, _⟩ => rfl | ⟨1, _⟩ => rfl)]
    have e1 : andi (k0_pay5 (F := Ideal) d) (broadcast S16384x1 127#32) (ix2 i 0) = BitVec.ofNat 32 (colOf d i).val := by
      show IntOp.andi (k0_pay5 (F := Ideal) d (ix2 i 0)) 127#32 = _
      rw [bins_eq, mask_binWord]
    have e2 : iota .tc S1x128 32 [1] iota_S1x128_d1_w32 (ix2 0 b) = BitVec.ofNat 32 b.val := by
      show BitVec.ofNat 32 (0 * 128 + b.val) = _
      rw [Nat.zero_mul, Nat.zero_add]
    have l1 := (colOf d i).isLt
    have l2 := b.isLt
    refine (congrArg₂ (IntOp.cmpi .eq) e1 e2).trans ?_
    rw [WordCmp.cmpi_eq_ofNat (by omega) (by omega)]
    exact congrArg BitVec.ofBool (decide_eq_decide.mpr Fin.ext_iff.symm)
  rw [h, indicator]
  simp

/-- The table of weights. -/
theorem table_eq (r d : FVec Ideal S16384x1 .f32) (a b : Fin 128) :
    k0_pay8 (F := Ideal) r d (ix2 a b) = cell (rowOf d) (colOf d) (weight (col r)) a b := by
  unfold k0_pay8
  refine (product_rows _ _ _ a b).trans (Finset.sum_congr rfl fun i _ => ?_)
  rw [rows_eq, mulf_apply, cols_eq, ite_mul', ite_mul',
    broadcastTo_apply _ _ _ (ix2 i 0) (by intro c; match c with | ⟨0, _⟩ => rfl | ⟨1, _⟩ => rfl)]
  rw [scores_eq, peak_eq]
  have hw : ∀ p : EReal, exp (subf r (broadcast S16384x1 p)) (ix2 i 0) = Ideal.exp (col r i - p) := fun p => rfl
  rw [hw]
  unfold weight
  with_reducible rfl

/-- The indicators of the rows above a row. -/
theorem upper_eq (a b : Fin 128) : k0_pay9 (F := Ideal) (ix2 a b) = if a < b then 1 else 0 := by
  have h : k0_pay9 (F := Ideal) (ix2 a b) = FloatOps.sitofp .f32 ((BitVec.ofBool (decide (a.val < b.val))).setWidth 32) := by
    unfold k0_pay9
    rw [sitofp_apply, extui_apply]
    congr 2
    have e1 : iota .tc S128x128 32 [0] iota_S128x128_d0_w32 (ix2 a b) = BitVec.ofNat 32 a.val := by
      show BitVec.ofNat 32 (0 * 128 + a.val) = _
      rw [Nat.zero_mul, Nat.zero_add]
    have e2 : iota .tc S128x128 32 [1] iota_S128x128_d1_w32 (ix2 a b) = BitVec.ofNat 32 b.val := by
      show BitVec.ofNat 32 (0 * 128 + b.val) = _
      rw [Nat.zero_mul, Nat.zero_add]
    have l1 := a.isLt
    have l2 := b.isLt
    refine (congrArg₂ (IntOp.cmpi .sgt) e2 e1).trans ?_
    rw [WordCmp.cmpi_sgt_ofNat (by omega) (by omega)]
  rw [h, indicator]
  simp

/-- The indicators of the columns from a column on. -/
theorem from_eq (a b : Fin 128) :
    (sitofp .f32 k0_pay10 : FVec Ideal S128x128 .f32) (ix2 a b) = if b ≤ a then 1 else 0 := by
  have h : (sitofp .f32 k0_pay10 : FVec Ideal S128x128 .f32) (ix2 a b)
      = FloatOps.sitofp .f32 ((BitVec.ofBool (decide (b.val ≤ a.val))).setWidth 32) := by
    unfold k0_pay10
    rw [sitofp_apply, extui_apply]
    congr 2
    have e1 : iota .tc S128x128 32 [0] iota_S128x128_d0_w32 (ix2 a b) = BitVec.ofNat 32 a.val := by
      show BitVec.ofNat 32 (0 * 128 + a.val) = _
      rw [Nat.zero_mul, Nat.zero_add]
    have e2 : iota .tc S128x128 32 [1] iota_S128x128_d1_w32 (ix2 a b) = BitVec.ofNat 32 b.val := by
      show BitVec.ofNat 32 (0 * 128 + b.val) = _
      rw [Nat.zero_mul, Nat.zero_add]
    have l1 := a.isLt
    have l2 := b.isLt
    refine (congrArg₂ (IntOp.cmpi .sge) e1 e2).trans ?_
    rw [WordCmp.cmpi_sge_ofNat (by omega) (by omega)]
  rw [h, indicator]
  simp

/-- A row of a product with an array of ones is the row's sum. -/
theorem ones_eq (x : FVec Ideal S128x128 .f32) (a b : Fin 128) :
    matmul dot_S128x128_S128x128_S128x128_1_0_0_1_n_n none x
      (broadcast S128x128 (Scalar.ofBits (F := Ideal) .f32 0x3F800000#32)) (constant S128x128 .f32 0x00000000#32) (ix2 a b)
      = ∑ b', x (ix2 a b') := by
  refine (product_plain _ rfl _ _ a b).trans (Finset.sum_congr rfl fun b' _ => ?_)
  have h1 : (broadcast S128x128 (Scalar.ofBits (F := Ideal) .f32 0x3F800000#32) : FVec Ideal S128x128 .f32) (ix2 b' b) = 1 :=
    Ideal.ofBits_one_f32
  rw [h1, mul_one]

/-- The table's sums: the rows above a row and the row itself from a column on. -/
theorem sums_eq (hi lo : Fin 16384 → Fin 128) (w : Fin 16384 → EReal) (t : FVec Ideal S128x128 .f32)
    (ht : ∀ a b, t (ix2 a b) = cell hi lo w a b) (a b : Fin 128) :
    addf (matmul dot_S128x128_S128x128_S128x128_1_0_0_1_n_n none (k0_pay9 (F := Ideal))
        (matmul dot_S128x128_S128x128_S128x128_1_0_0_1_n_n none t
          (broadcast S128x128 (Scalar.ofBits (F := Ideal) .f32 0x3F800000#32)) (constant S128x128 .f32 0x00000000#32))
        (constant S128x128 .f32 0x00000000#32))
      (matmul dot_S128x128_S128x128_S128x128_1_0_0_1_n_n none t (sitofp .f32 k0_pay10)
        (constant S128x128 .f32 0x00000000#32)) (ix2 a b)
      = above hi lo w a + along hi lo w a b := by
  rw [addf_apply]
  refine congrArg₂ (· + ·) ?_ ?_
  · refine (product_plain _ rfl _ _ a b).trans (Finset.sum_congr rfl fun a' _ => ?_)
    rw [upper_eq, ite_mul', ones_eq, Finset.sum_congr rfl fun b' _ => ht a' b']
  · refine (product_plain _ rfl _ _ a b).trans (Finset.sum_congr rfl fun b' _ => ?_)
    rw [from_eq, mul_ite', ht]

/-- Looking an array up at each sample's row and column, by products with the indicators. -/
theorem lookup_eq (d : FVec Ideal S16384x1 .f32) (s : FVec Ideal S128x128 .f32) (i : Fin 16384) :
    (∑ b : Fin 128, (mulf (matmul dot_S16384x128_S128x128_S16384x128_1_0_0_1_n_n none (k0_pay6 (F := Ideal) d) s
        (constant S16384x128 .f32 0x00000000#32)) (k0_pay7 (F := Ideal) d)) (ix2 i b)) = s (ix2 (rowOf d i) (colOf d i)) := by
  have hrow : ∀ b : Fin 128, matmul dot_S16384x128_S128x128_S16384x128_1_0_0_1_n_n none (k0_pay6 (F := Ideal) d) s
        (constant S16384x128 .f32 0x00000000#32) (ix2 i b) = s (ix2 (rowOf d i) b) := fun b => by
    refine (product_plain _ rfl _ _ i b).trans ?_
    rw [Finset.sum_congr rfl fun a _ => (congrArg (· * _) (rows_eq d i a)).trans (ite_mul' _ _), Finset.sum_ite_eq,
      if_pos (Finset.mem_univ _)]
  have hterm : ∀ b : Fin 128, (mulf (matmul dot_S16384x128_S128x128_S16384x128_1_0_0_1_n_n none (k0_pay6 (F := Ideal) d) s
        (constant S16384x128 .f32 0x00000000#32)) (k0_pay7 (F := Ideal) d)) (ix2 i b)
      = if colOf d i = b then s (ix2 (rowOf d i) b) else 0 := fun b => by
    rw [mulf_apply, hrow, cols_eq, mul_ite']
  rw [Finset.sum_congr rfl fun b _ => hterm b, Finset.sum_ite_eq, if_pos (Finset.mem_univ _)]

/-- A row's sum. -/
theorem rowSum_eq (x : FVec Ideal S16384x128 .f32) (i : Fin 16384) :
    shapeCast S16384x1 (multiReduction .add [1] S16384 x 0x00000000#32 reduces_S16384x128_S16384 (.inl rfl) rfl)
      shapeCasts_S16384_S16384x1 (ix2 i 0) = ∑ b : Fin 128, x (ix2 i b) := by
  refine (shapeCast_apply _ _ _ (ix1 i) (by rfl)).trans ?_
  refine (multiReduction_add_apply _ _ _ _ _ _).trans ?_
  exact Ideal.reduceAdd_r2_a1 _ _ _

/-- The sum of a column, as the kernel takes it. -/
theorem total_eq (x : FVec Ideal S16384x1 .f32) :
    extractAt ![0, 0, 0] (shapeCast S1x1x1 (multiReduction .add [1, 2] S1
      (shapeCast S1x16384x1 x shapeCasts_S16384x1_S1x16384x1) 0x00000000#32 reduces_S1x16384x1_S1 (.inl rfl) rfl)
      shapeCasts_S1_S1x1x1) inpos_S1x1x1_p0_0_0 = ∑ i, col x i := by
  refine (shapeCast_apply _ _ _ (ix1 0) (by rfl)).trans ?_
  refine (Ideal.multiReduction_add_total _ _ _ (fun b => by fin_cases b; rfl) _ _ _).trans ?_
  rw [sum_shapeCast, sum_col]

/-- The number the kernel stores: the likelihood with each sample's sum of the weights of the bins from its own on. -/
theorem stored_eq (r d e : FVec Ideal S16384x1 .f32) (j : S1x1.Idx) :
    k0_pay1 (F := Ideal) (k0_pay2 r) (k0_pay3 e) (k0_pay4 r) (k0_pay6 d) (k0_pay7 d) (k0_pay8 r d) k0_pay9 k0_pay10 j
      = likelihood (col r) (col e) (riskSum (fun i => binNat (col d i)) (weight (col r))) := by
  rw [scores_eq, events_eq, peak_eq]
  unfold k0_pay1
  dsimp only
  rw [total_eq, total_eq]
  have hsum : ∀ i : Fin 16384, _ = tableSum (rowOf d) (colOf d) (weight (col r)) i := fun i =>
    (rowSum_eq _ i).trans ((lookup_eq d _ i).trans (sums_eq (rowOf d) (colOf d) (weight (col r)) (k0_pay8 r d) (table_eq r d) _ _))
  rw [← tableSum_eq (rowOf d) (colOf d) (weight (col r)) _ fun i => binNat_parts (col d i)]
  unfold likelihood
  have hterm : ∀ (c : FVec Ideal S16384x1 .f32) (p : EReal) (i : Fin 16384),
      col (mulf (subf r (addf (log (addf c (broadcast S16384x1 (Scalar.ofBits (F := Ideal) .f32 0x322BCC77#32))))
        (broadcast S16384x1 p))) e) i = (col r i - (Ideal.log (c (ix2 i 0) + eps) + p)) * col e i := fun c p i => rfl
  have hdiv : ∀ x y : EReal, broadcast S1x1 (Scalar.divf (F := Ideal) (φ := .f32)
      (Scalar.subf (Scalar.ofBits .f32 0x00000000#32) x) (Scalar.addf y (Scalar.ofBits .f32 0x322BCC77#32))) j
      = Ideal.div (-x) (y + eps) := fun x y => by
    show Ideal.div (Ideal.ofBits .f32 0x00000000#32 - x) _ = _
    rw [Ideal.ofBits_zero_f32, zero_sub]
    rfl
  rw [hdiv, Finset.sum_congr rfl fun i _ => hterm _ _ i]
  have hnum : ∀ x y z : EReal, x = y → Ideal.div (-x) z = Ideal.div (-y) z := fun x y z h => by rw [h]
  refine hnum _ _ _ (Finset.sum_congr rfl fun i _ => ?_)
  rw [← hsum i]

end Cert.Cox

end
-- ==== Proof.KernelRun.lean ====
/- The kernel's run: its result is the likelihood of the risk scores with, for each sample, the sum of the weights of the
   samples whose bin is not below its own. -/
module

public import proofs.«01_k».proof.Proof.KernelTable
public import proofs.«01_k».proof.Proof.Gen.KernelIdeal.Frame
public import Idealize.ShloMosaic.Lib.Pipeline.ValueKit

@[expose] public section

noncomputable section

namespace Cert.Cox

open Idealize.ShloMosaic hiding ix1 ix2 ix3
open Idealize.ShloMosaic.ValueIdx Cert.KernelIdeal Cert.KernelIdeal.Gen
open Idealize.ShloMosaic.TcCoe Idealize.SL.Sem
open scoped BigOperators

/-- The likelihood of risk scores and a two-column table of durations and events, the risk sums taken by bin: what the
    kernel computes. -/
def binnedLoss (r : FVec Ideal S16384 .f32) (y : FVec Ideal S16384x2 .f32) : EReal :=
  likelihood (fun i => r (ix1 i)) (fun i => y (ix2 i 1))
    (riskSum (fun i => binNat (y (ix2 i 0))) (weight fun i => r (ix1 i)))

variable (m : (ℓ : Loc nD τ sig) → Buf (Elt Ideal) ℓ)

/-- The kernel's first operand is the risk scores as a column. -/
theorem operand_scores (c : Dev nD) (i : Fin 16384) :
    (V m c main_v0 : FVec Ideal S16384x1 .f32) (ix2 i 0) = (m (c, Proc.devRef .tc main_arg0) : FVec Ideal S16384 .f32) (ix1 i) := by
  have h : (V m c main_v0 : FVec Ideal S16384x1 .f32)
      = shapeCast S16384x1 (m (c, Proc.devRef .tc main_arg0) : FVec Ideal S16384 .f32) shapeCasts_S16384_S16384x1 := by
    dsimp only [V, V0, hostOps0, List.flatten_cons, List.flatten_nil, List.cons_append, List.nil_append]
    after_results
    rfl
  rw [h]
  exact shapeCast_apply _ _ _ (ix1 i) (by rfl)

/-- Its second operand is the durations as a column. -/
theorem operand_durations (c : Dev nD) (i : Fin 16384) :
    (V m c main_v3 : FVec Ideal S16384x1 .f32) (ix2 i 0)
      = (m (c, Proc.devRef .tc main_arg1) : FVec Ideal S16384x2 .f32) (ix2 i 0) := by
  have h : (V m c main_v3 : FVec Ideal S16384x1 .f32)
      = shapeCast S16384x1 (shapeCast S16384 (extractStridedSlice S16384x1 ![0, 0]
          (m (c, Proc.devRef .tc main_arg1) : FVec Ideal S16384x2 .f32) slices_S16384x2_S16384x1_0_0)
          shapeCasts_S16384x1_S16384) shapeCasts_S16384_S16384x1 := by
    dsimp only [V, V0, hostOps0, List.flatten_cons, List.flatten_nil, List.cons_append, List.nil_append]
    after_results
    rfl
  rw [h, shapeCast_apply _ _ _ (ix1 i) (by rfl), shapeCast_apply _ _ _ (ix2 i 0) (by rfl)]
  refine congrArg (m (c, Proc.devRef .tc main_arg1) : FVec Ideal S16384x2 .f32) (funext fun a => Fin.ext ?_)
  match a with
  | ⟨0, _⟩ => exact Nat.zero_add _
  | ⟨1, _⟩ => rfl

/-- Its third operand is the events as a column. -/
theorem operand_events (c : Dev nD) (i : Fin 16384) :
    (V m c main_v6 : FVec Ideal S16384x1 .f32) (ix2 i 0)
      = (m (c, Proc.devRef .tc main_arg1) : FVec Ideal S16384x2 .f32) (ix2 i 1) := by
  have h : (V m c main_v6 : FVec Ideal S16384x1 .f32)
      = shapeCast S16384x1 (shapeCast S16384 (extractStridedSlice S16384x1 ![0, 1]
          (m (c, Proc.devRef .tc main_arg1) : FVec Ideal S16384x2 .f32) slices_S16384x2_S16384x1_0_1)
          shapeCasts_S16384x1_S16384) shapeCasts_S16384_S16384x1 := by
    dsimp only [V, V0, hostOps0, List.flatten_cons, List.flatten_nil, List.cons_append, List.nil_append]
    after_results
    rfl
  rw [h, shapeCast_apply _ _ _ (ix1 i) (by rfl), shapeCast_apply _ _ _ (ix2 i 0) (by rfl)]
  refine congrArg (m (c, Proc.devRef .tc main_arg1) : FVec Ideal S16384x2 .f32) (funext fun a => Fin.ext ?_)
  match a with
  | ⟨0, _⟩ => exact Nat.zero_add _
  | ⟨1, _⟩ => rfl

/-- What the kernel's body finds of its first operand is the operand. -/
theorem block_scores (c : Dev nD) (t : Fin cfg0.N) : iblk m c 0 t = V m c main_v0 := by
  funext x
  show V m c main_v0 (((cfg0.win 0).blk t).view.emb x) = _
  refine congrArg (V m c main_v0) (funext fun a => Fin.ext ?_)
  blk_simp
  have h0 : win0_0.index t a = 0 := rfl
  rw [h0, Nat.zero_mul, Nat.zero_add]

/-- What the kernel's body finds of its second operand is the operand. -/
theorem block_durations (c : Dev nD) (t : Fin cfg0.N) : iblk m c 1 t = V m c main_v3 := by
  funext x
  show V m c main_v3 (((cfg0.win 1).blk t).view.emb x) = _
  refine congrArg (V m c main_v3) (funext fun a => Fin.ext ?_)
  blk_simp
  have h0 : win0_1.index t a = 0 := rfl
  rw [h0, Nat.zero_mul, Nat.zero_add]

/-- What the kernel's body finds of its third operand is the operand. -/
theorem block_events (c : Dev nD) (t : Fin cfg0.N) : iblk m c 2 t = V m c main_v6 := by
  funext x
  show V m c main_v6 (((cfg0.win 2).blk t).view.emb x) = _
  refine congrArg (V m c main_v6) (funext fun a => Fin.ext ?_)
  blk_simp
  have h0 : win0_2.index t a = 0 := rfl
  rw [h0, Nat.zero_mul, Nat.zero_add]

/-- What the kernel's body leaves in its result's buffer. -/
theorem left_eq (r d e : FVec Ideal S16384x1 .f32) (j : S1x1.Idx) :
    out0_3 (F := Ideal) r d e j = likelihood (col r) (col e) (riskSum (fun i => binNat (col d i)) (weight (col r))) := by
  unfold out0_3
  rw [View.canon_unit_zero (S := S1x1) (by funext a; fin_cases a <;> rfl), View.ld_unit_zero (S := S16384x1) (by funext a; fin_cases a <;> rfl),
    View.ld_unit_zero (S := S16384x1) (by funext a; fin_cases a <;> rfl), View.ld_unit_zero (S := S16384x1) (by funext a; fin_cases a <;> rfl)]
  exact stored_eq r d e j

/-- The likelihood over the operands is the likelihood over the arguments. -/
theorem operands_eq (c : Dev nD) :
    likelihood (col (V m c main_v0 : FVec Ideal S16384x1 .f32)) (col (V m c main_v6 : FVec Ideal S16384x1 .f32))
        (riskSum (fun i => binNat (col (V m c main_v3 : FVec Ideal S16384x1 .f32) i)) (weight (col (V m c main_v0 : FVec Ideal S16384x1 .f32))))
      = binnedLoss (m (c, Proc.devRef .tc main_arg0)) (m (c, Proc.devRef .tc main_arg1)) := by
  have h0 : col (V m c main_v0 : FVec Ideal S16384x1 .f32) = fun i => (m (c, Proc.devRef .tc main_arg0) : FVec Ideal S16384 .f32) (ix1 i) :=
    funext fun i => operand_scores m c i
  have h1 : col (V m c main_v6 : FVec Ideal S16384x1 .f32) = fun i => (m (c, Proc.devRef .tc main_arg1) : FVec Ideal S16384x2 .f32) (ix2 i 1) :=
    funext fun i => operand_events m c i
  have h2 : (fun i => binNat (col (V m c main_v3 : FVec Ideal S16384x1 .f32) i))
      = fun i => binNat ((m (c, Proc.devRef .tc main_arg1) : FVec Ideal S16384x2 .f32) (ix2 i 0)) :=
    funext fun i => congrArg binNat (operand_durations m c i)
  unfold binnedLoss
  rw [h0, h1, h2]

/-- The kernel's result array after its run. -/
theorem array_eq (c : Dev nD) : (dats m 0 c).arrAt 3 cfg0.N
    = fun _ => binnedLoss (m (c, Proc.devRef .tc main_arg0)) (m (c, Proc.devRef .tc main_arg1)) := by
  refine (dats m 0 c).arrAt_eq_of_covers 3 _ (by decide +kernel) fun t hf y => ?_
  blk_simp
  rw [after0_3, block_scores, block_durations, block_events]
  exact (left_eq _ _ _ _).trans (operands_eq m c)

/-- The program's result after the reshape that follows the kernel. -/
theorem result_eq (c : Dev nD) : Pipeline.afterTail₀ cfgs (dats m) 0 (V0 m) [hostOps1] c main_v8
    = fun _ => binnedLoss (m (c, Proc.devRef .tc main_arg0)) (m (c, Proc.devRef .tc main_arg1)) := by
  have hw := (Pipeline.withArrays_arr (τ := τ) (Val := Elt Ideal) spec0 launch0.win.arr_inj c (V0 m c)
    (fun w => (dats m 0 c).arrAt w cfg0.N) 3).trans (array_eq m c)
  unfold Pipeline.afterTail₀
  dsimp only [hostOps1, List.flatten_cons, List.flatten_nil, List.cons_append, List.nil_append]
  after_results
  funext j
  refine Eq.trans ?_ (congrFun hw (Shape.reshapeEquiv shapeCasts_S1x1_S_ j))
  rfl

/-- The kernel's run, with its result. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v8)
        = (fun _ => binnedLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Cox

end
-- ==== Proof.BinnedRun.lean ====
module

public import proofs.«01_k».proof.Proof.KernelRun
public import proofs.«01_k».proof.Proof.Gen.BinnedIdeal.Read

@[expose] public section

noncomputable section

namespace Cert.Cox

open Idealize.ShloMosaic hiding ix1 ix2 ix3
open Idealize.ShloMosaic.ValueIdx
open Idealize.ShloMosaic.TcCoe Idealize.SL.Sem
open scoped BigOperators

/-- A sum over the indices of a one-axis array is a sum over its axis. -/
theorem sum_line {n : ℕ} (x : (⟨1, ![n]⟩ : Shape).Idx → EReal) : ∑ j, x j = ∑ i : Fin n, x (ix1 i) :=
  (Equiv.sum_comp (idxEquiv1 (n := n)).symm x).symm

/-- A reduction of a one-axis array by the maximum, from minus infinity, is its greatest entry. -/
theorem host_peak {n : ℕ} {u : Shape} (x : FVec Ideal ⟨1, ![n]⟩ .f32) (init : u.Idx → EReal) {t : Shape}
    {axes : List (Fin (⟨1, ![n]⟩ : Shape).rank)} (h : (⟨1, ![n]⟩ : Shape).ReducesTo axes t) (ht : t.rank = 0)
    (hu : 0 < u.numel) (hi : init (Shape.Idx.first hu) = ⊥) (j : t.Idx) :
    Host.reduce (FloatOps.maximumf (F := Ideal) (φ := .f32)) x init h hu j = peak fun i => x (ix1 i) := by
  have hf : (FloatOps.maximumf (F := Ideal) (φ := .f32)) = (max : EReal → EReal → EReal) := rfl
  rw [hf, Host.reduce_eq_fold, hi, Finset.filter_true_of_mem fun i _ => funext fun b => absurd b.isLt (by omega)]
  exact fold_equiv (idxEquiv1 (n := n)).symm x

/-- The bin raised to zero and then capped is the bin capped and then raised to zero. -/
theorem clamp_eq (x : EReal) :
    min (((16383#32 : BitVec 32).toInt : ℝ) : EReal)
      (max (((0#32 : BitVec 32).toInt : ℝ) : EReal) (Ideal.liftRound Int.floor (x * Ideal.ofBits .f32 0x46800000#32))) = bin x := by
  have h0 : (((0#32 : BitVec 32).toInt : ℝ) : EReal) = 0 := by simp
  have h1 : (((16383#32 : BitVec 32).toInt : ℝ) : EReal) = Ideal.ofBits .f32 0x467FFC00#32 := by
    rw [ofBits_last, show (16383#32 : BitVec 32).toInt = 16383 from rfl]
    norm_num
  have h2 : (0 : EReal) ≤ Ideal.ofBits .f32 0x467FFC00#32 := by
    rw [ofBits_last]
    exact_mod_cast (by norm_num : (0 : ℝ) ≤ 16383)
  unfold bin capped
  rw [h0, h1, max_comm, min_comm, max_min_distrib_right, max_eq_left h2]

section Binned

open Cert.BinnedIdeal Cert.BinnedIdeal.Gen Cert.BinnedIdeal.Read

variable (r : FVec Ideal S16384 .f32) (y : FVec Ideal S16384x2 .f32)

/-- The bins. -/
theorem b_bins (i : Fin 16384) : val_main_v5 (F := Ideal) y (ix1 i) = bin (y (ix2 i 0)) := by
  rw [val_main_v5_apply, val_main_call0_v4_apply, val_main_call0_v3_apply, val_main_c_0_apply, val_main_call0_v2_apply,
    val_main_call0_v1_apply, val_main_call0_v0_apply, val_main_c_apply, val_main_v4_apply, val_main_v3_apply,
    val_main_v2_apply, val_main_cst_apply, val_main_v1_apply, val_main_v0_apply]
  have e : idx_main_v0 (idx_main_v1 (ix1 i)) = ix2 i 0 := by
    funext a; apply Fin.ext
    match a with
    | ⟨0, _⟩ => exact Nat.div_one _
    | ⟨1, _⟩ => rfl
  rw [e]
  exact clamp_eq _

/-- The events. -/
theorem b_events (i : Fin 16384) : val_main_v7 (F := Ideal) y (ix1 i) = y (ix2 i 1) := by
  rw [val_main_v7_apply, val_main_v6_apply]
  refine congrArg y (funext fun a => Fin.ext ?_)
  match a with
  | ⟨0, _⟩ => exact Nat.div_one _
  | ⟨1, _⟩ => rfl

/-- The greatest risk score. -/
theorem b_peak (j : S_.Idx) : val_main_v8 (F := Ideal) r j = peak fun i => r (ix1 i) :=
  host_peak r _ _ rfl _ ofBits_bot j

/-- The weights. -/
theorem b_weights (i : Fin 16384) : val_main_v11 (F := Ideal) r (ix1 i) = weight (fun i => r (ix1 i)) i := by
  rw [val_main_v11_apply, val_main_v10_apply, val_main_v9_apply, b_peak, Ideal.hostUnary_exp_def, Ideal.subf_def]
  unfold weight
  with_reducible rfl

/-- The sums over the samples whose bin is not below a sample's own. -/
theorem b_sums (i : Fin 16384) : val_main_v19 (F := Ideal) r y (ix1 i)
    = riskSum (fun i => bin (y (ix2 i 0))) (weight fun i => r (ix1 i)) i := by
  rw [val_main_v19_apply, val_main_cst_3_apply]
  have h0 : (FloatOps.ofBits .f32 0x00000000#32 : Ideal .f32) = 0 := Ideal.ofBits_zero_f32
  rw [h0, zero_add]
  refine Finset.sum_congr rfl fun j _ => ?_
  have e : idx_main_v19 (ix1 i) j = ix2 i j := by
    funext a
    match a with
    | ⟨0, _⟩ => rfl
    | ⟨1, _⟩ => rfl
  have e1 : idx_main_v12 (idx_main_v14 (ix2 i j)) = ix1 j := by funext a; match a with | ⟨0, _⟩ => rfl
  have e2 : idx_main_v13 (idx_main_v15 (ix2 i j)) = ix1 i := by funext a; match a with | ⟨0, _⟩ => rfl
  have e3 : idx_main_v17 (idx_main_call1_v1 (ix2 i j)) = ix1 j := by funext a; match a with | ⟨0, _⟩ => rfl
  rw [e, val_main_v18_apply, val_main_v16_apply, val_main_v14_apply, val_main_v12_apply, val_main_v15_apply,
    val_main_v13_apply, val_main_call1_v1_apply, val_main_v17_apply, val_main_call1_v2_apply, val_main_call1_v0_apply,
    val_main_cst_2_apply, e1, e2, e3, b_bins, b_bins, b_weights, h0, Ideal.cmpf_def]
  unfold Ideal.cmp
  dsimp only
  by_cases h : bin (y (ix2 i 0)) ≤ bin (y (ix2 j 0))
  · rw [if_pos h, decide_eq_true h]
    rfl
  · rw [if_neg h, decide_eq_false h]
    rfl

/-- The likelihood by bin is the kernel's. -/
theorem b_result (j : S_.Idx) : val_main_v31 (F := Ideal) r y j = binnedLoss r y := by
  have h0 : (FloatOps.ofBits .f32 0x00000000#32 : Ideal .f32) = 0 := Ideal.ofBits_zero_f32
  have hn : val_main_v27 (F := Ideal) r y j = ∑ i : Fin 16384,
      (r (ix1 i) - (Ideal.log (riskSum (fun i => bin (y (ix2 i 0))) (weight fun i => r (ix1 i)) i + eps)
        + peak fun i => r (ix1 i))) * y (ix2 i 1) := by
    rw [val_main_v27_apply, val_main_cst_5_apply, h0, zero_add, sum_line]
    refine Finset.sum_congr rfl fun i _ => ?_
    rw [val_main_v26_apply, val_main_v25_apply, val_main_v24_apply, val_main_v23_apply, val_main_v22_apply,
      val_main_v21_apply, val_main_v20_apply, val_main_cst_4_apply, b_sums, b_events, b_peak, Ideal.mulf_def, Ideal.subf_def, Ideal.addf_def,
      Ideal.addf_def, Ideal.hostUnary_log_def]
    unfold eps
    rfl
  have hd : val_main_v30 (F := Ideal) y j = ∑ i : Fin 16384, y (ix2 i 1) + eps := by
    rw [val_main_v30_apply, val_main_v29_apply, val_main_cst_6_apply, val_main_cst_7_apply, h0, zero_add, sum_line,
      Finset.sum_congr rfl fun i _ => b_events y i]
    rfl
  rw [val_main_v31_apply, val_main_v28_apply, hn, hd]
  unfold binnedLoss
  rw [riskSum_congr (fun i => binNat (y (ix2 i 0))) (fun i => bin (y (ix2 i 0))) fun i j => binNat_le_iff _ _]
  rfl

variable (m : (ℓ : Loc nD τ sig) → Buf (Elt Ideal) ℓ)

/-- The run of the likelihood by bin, with its result. -/
theorem binned_run (ρ : Dev nD → PrngReg) :
    θ_run defs (onTc (τ := τ) (main (F := Ideal))) ⟨m, fun _ => 0, ρ⟩ (fun r => ∀ c : Dev nD,
      r.2.mem ((c.tc : Thread nD τ).loc main_v31)
        = (fun _ => binnedLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1.trans ((val_main_v31_eq _ _).trans (funext fun j => b_result _ _ j)), (h c).2.1, (h c).2.2⟩)
    (Cert.BinnedIdeal.Value.run m ρ)

end Binned

end Cert.Cox

end
-- ==== Proof.Sorted.lean ====
/- Sorting by decreasing duration, the running sum over sorted samples, and reading an array at sorted positions. -/
module

public import proofs.«01_k».proof.Proof.Reads
public import proofs.«01_k».proof.Proof.Cox
public import Idealize.ShloMosaic.Lib.SortFacts
public import Idealize.ShloMosaic.Lib.Routing.OpsSearch

@[expose] public section

noncomputable section

namespace Cert.Cox

open Idealize.ShloMosaic
open Idealize.ShloMosaic.ValueIdx
open scoped BigOperators

/-! ## The order of the sort -/

/-- A sort key is left alone by the replacement of zeros and of values that are not numbers: an extended real is always a number. -/
theorem canonical (x z c : EReal) (hz : z = 0) :
    Scalar.select (Ideal.cmp .une x x) c (Scalar.select (Ideal.cmp .oeq x z) z x) = x := by
  subst hz
  unfold Scalar.select Ideal.cmp
  by_cases h : x = 0 <;> simp [h]

/-- The comparison of two sort keys is the strict order of extended reals. -/
theorem before_eq (x y : EReal) : Ideal.cmp (CmpDirection.lt).ordered x y = BitVec.ofBool (decide (x < y)) := rfl

/-- The sorting permutation of `n` samples by decreasing `d`: place `p` of the sorted samples holds sample `byTime d p`. -/
def byTime {n : ℕ} (d : Fin n → EReal) : Fin n → Fin n := sortedFrom fun k k' => decide (-d k < -d k')

/-- Every sample has exactly one place. -/
theorem byTime_bijective {n : ℕ} (d : Fin n → EReal) : Function.Bijective (byTime d) :=
  ⟨sortedFrom_injective _, sortedFrom_surjective _⟩

/-- Durations do not increase along the sorted samples. -/
theorem byTime_antitone {n : ℕ} (d : Fin n → EReal) {p q : Fin n} (h : p ≤ q) : d (byTime d q) ≤ d (byTime d p) := by
  rcases h.eq_or_lt with rfl | h
  · exact le_rfl
  · have := sortedFrom_noInversion (fun k k' => decide (-d k < -d k')) (fun k k' => decide (-d k < -d k'))
      (fun a b hab => by
        rw [decide_eq_true_eq] at hab
        exact decide_eq_false (not_lt.mpr hab.le))
      (fun a b hab => hab)
      (fun a b c hab hbc => by
        rw [decide_eq_false_iff_not, not_lt] at hab hbc ⊢
        exact hbc.trans hab) p q h
    rw [decide_eq_false_iff_not, not_lt] at this
    exact EReal.neg_le_neg_iff.mp this

/-- A stable sort along the only axis whose comparator is the strict order of minus `d` reads each operand through `byTime d`. -/
theorem sortBy_byTime {n : ℕ} {ι α : Type} (cmp : ι → ι → BitVec 1) (rows : (⟨1, ![n]⟩ : Shape).Idx → ι)
    (x : (⟨1, ![n]⟩ : Shape).Idx → α) (d : Fin n → EReal)
    (h : ∀ k k', cmp (rows (ix1 k)) (rows (ix1 k')) = BitVec.ofBool (decide (-d k < -d k'))) (p : Fin n) :
    Host.sortBy ⟨1, ![n]⟩ 0 cmp rows x (ix1 p) = x (ix1 (byTime d p)) := by
  have hix : ∀ k : Fin n, (ix1 p : (⟨1, ![n]⟩ : Shape).Idx).along (0 : Fin 1) k = ix1 k := fun k =>
    (Shape.Idx.along_rank1 _ _).trans (by funext a; match a with | ⟨0, _⟩ => rfl)
  have hb : ∀ b : Bool, (BitVec.ofBool b == 1#1) = b := by decide
  have hs : (fun k k' : Fin n => cmp (rows ((ix1 p : (⟨1, ![n]⟩ : Shape).Idx).along (0 : Fin 1) k))
      (rows ((ix1 p : (⟨1, ![n]⟩ : Shape).Idx).along (0 : Fin 1) k')) == 1#1) = fun k k' => decide (-d k < -d k') := by
    funext k k'
    rw [hix, hix, h, hb]
  unfold Host.sortBy
  rw [dif_pos (Nat.one_pos : (0 : ℕ) < (⟨1, ![n]⟩ : Shape).rank)]
  refine (congrArg x (hix _)).trans ?_
  unfold byTime
  rw [← hs]
  rfl

/-! ## Reading at sorted positions -/

/-- A position below `16384` read as a signed word is not negative, so the wrap of negative positions leaves it alone. -/
theorem wrap_eq (k : ℕ) (hk : k < 16384) :
    Scalar.select (IntOp.cmpi .slt (BitVec.ofNat 32 k) 0#32) (IntOp.addi (BitVec.ofNat 32 k) 16384#32) (BitVec.ofNat 32 k)
      = BitVec.ofNat 32 k := by
  have h : IntOp.cmpi .slt (BitVec.ofNat 32 k) 0#32 = 0#1 := by
    have : (BitVec.ofNat 32 k).slt 0#32 = false := by
      rw [BitVec.slt, decide_eq_false_iff_not, BitVec.toInt_eq_toNat_of_lt (by rw [BitVec.toNat_ofNat]; omega)]
      exact not_lt.mpr (Int.natCast_nonneg _)
    unfold IntOp.cmpi
    simp [this]
  rw [h]
  rfl

/-- A gather of single entries reads, where the position word is that of `k`, entry `k`. -/
theorem gathered {α : Type} {n : ℕ} (d : GatherDims ⟨1, ![n]⟩ ⟨2, ![n, 1]⟩ ⟨1, ![n]⟩) (hcoll : d.collapsedSliceDims = [0])
    (hob : d.operandBatchingDims = []) (hsim : d.startIndexMap = [0]) (hivd : d.indexVectorDim = 1) (hn : n ≤ 2 ^ 31)
    (x : (⟨1, ![n]⟩ : Shape).Idx → α) (idx : IVec ⟨2, ![n, 1]⟩ 32) (p k : Fin n)
    (hidx : idx (ix2 p 0) = BitVec.ofNat 32 k.val) : Host.gather d x idx (ix1 p) = x (ix1 k) :=
  Routing.take_ap d hcoll hob hsim hivd x idx p k.isLt (lt_of_lt_of_le k.isLt hn) hidx

/-! ## The running sum -/

/-- A fold by addition from zero along all positions is the sum over the positions. -/
theorem fold_add {n : ℕ} (g : Fin n → EReal) : (List.finRange n).foldl (fun a i => a + g i) 0 = ∑ i, g i := by
  have : ∀ (l : List (Fin n)) (a : EReal), l.foldl (fun a i => a + g i) a = a + (l.map g).sum := by
    intro l
    induction l with
    | nil => intro a; simp
    | cons i l ih => intro a; simp [ih, add_assoc]
  rw [this, zero_add, ← List.ofFn_eq_map, List.sum_ofFn]

/-- The sum over a window of `n` entries that ends at place `j`, entries before the first counted as zero, is the sum of the entries up
    to place `j`. -/
theorem window_sum {n : ℕ} (x : Fin n → EReal) (j : Fin n) :
    (∑ i : Fin n, if h : n - 1 ≤ j.val + i.val then x ⟨j.val + i.val - (n - 1), by have := j.isLt; have := i.isLt; omega⟩ else 0)
      = ∑ q : Fin n, if q ≤ j then x q else 0 := by
  rw [← Finset.sum_filter]
  have hl : ∀ i : Fin n, (if h : n - 1 ≤ j.val + i.val then
        x ⟨j.val + i.val - (n - 1), by have := j.isLt; have := i.isLt; omega⟩ else 0)
      = if n - 1 ≤ j.val + i.val then
        x ⟨j.val + i.val - (n - 1), by have := j.isLt; have := i.isLt; omega⟩ else 0 := by
    intro i
    by_cases h : n - 1 ≤ j.val + i.val
    · rw [dif_pos h, if_pos h]
    · rw [dif_neg h, if_neg h]
  rw [Finset.sum_congr rfl fun i _ => hl i, ← Finset.sum_filter]
  refine Finset.sum_bij (fun i _ => ⟨j.val + i.val - (n - 1), by have := j.isLt; have := i.isLt; omega⟩) ?_ ?_ ?_ ?_
  · intro i _
    rw [Finset.mem_filter]
    refine ⟨Finset.mem_univ _, ?_⟩
    rw [Fin.le_def]
    have := i.isLt
    show j.val + i.val - (n - 1) ≤ j.val
    omega
  · intro a ha b hb hab
    rw [Finset.mem_filter] at ha hb
    have : j.val + a.val - (n - 1) = j.val + b.val - (n - 1) := congrArg Fin.val hab
    exact Fin.ext (by omega)
  · intro q hq
    rw [Finset.mem_filter, Fin.le_def] at hq
    have := j.isLt
    refine ⟨⟨q.val + (n - 1) - j.val, by omega⟩, ?_, ?_⟩
    · rw [Finset.mem_filter]
      exact ⟨Finset.mem_univ _, by show n - 1 ≤ j.val + (q.val + (n - 1) - j.val); omega⟩
    · exact Fin.ext (by show j.val + (q.val + (n - 1) - j.val) - (n - 1) = q.val; omega)
  · intro i _
    rfl

/-- The running sum of a one-axis array of `n` entries, from zero. -/
theorem running_sum {n m : ℕ} (hm : m = n - 1) (x : (⟨1, ![n]⟩ : Shape).Idx → EReal)
    (h : (⟨1, ![n]⟩ : Shape).ReduceWindows ![n] ![1] ![m] ![0] ⟨1, ![n]⟩) (j : Fin n) :
    Ideal.hostReduceWindowAdd ![n] ![1] ![m] ![0] h x 0 (ix1 j) = ∑ q : Fin n, if q ≤ j then x (ix1 q) else 0 := by
  subst hm
  unfold Ideal.hostReduceWindowAdd Host.reduceWindow
  dsimp only
  rw [fold_add, ← window_sum (fun q => x (ix1 q)) j]
  refine ((Equiv.sum_comp ((⟨1, ![n]⟩ : Shape).rowMajor.symm.trans idxEquiv1) (fun i : Fin n =>
    if h : n - 1 ≤ j.val + i.val then x (ix1 ⟨j.val + i.val - (n - 1), by have := j.isLt; have := i.isLt; omega⟩)
      else 0)).symm.trans ?_).symm
  refine Finset.sum_congr rfl fun k _ => ?_
  have key : ∀ (w : (⟨1, ![n]⟩ : Shape).Idx)
      (inst : Decidable (∀ a : Fin 1, ![n - 1] a ≤ (ix1 j (Fin.cast h.1.symm a)).val * ![1] a + (w a).val
            ∧ (ix1 j (Fin.cast h.1.symm a)).val * ![1] a + (w a).val - ![n - 1] a < ![n] a)),
      (if h : n - 1 ≤ j.val + (idxEquiv1 w).val then
          x (ix1 ⟨j.val + (idxEquiv1 w).val - (n - 1), by have := j.isLt; have := (idxEquiv1 w).isLt; omega⟩) else 0)
        = if hin : ∀ a : Fin 1, ![n - 1] a ≤ (ix1 j (Fin.cast h.1.symm a)).val * ![1] a + (w a).val
            ∧ (ix1 j (Fin.cast h.1.symm a)).val * ![1] a + (w a).val - ![n - 1] a < ![n] a then
          x fun a => ⟨(ix1 j (Fin.cast h.1.symm a)).val * ![1] a + (w a).val - ![n - 1] a, (hin a).2⟩ else 0 := by
    intro w inst
    have hwn : (w 0).val < n := (w 0).isLt
    have hj := j.isLt
    have hw : (idxEquiv1 w).val = (w 0).val := rfl
    by_cases hc : n - 1 ≤ j.val + (idxEquiv1 w).val
    · rw [dif_pos hc, dif_pos]
      · refine congrArg x (funext fun a => Fin.ext ?_)
        match a with
        | ⟨0, _⟩ =>
          show j.val + (w 0).val - (n - 1) = j.val * 1 + (w 0).val - (n - 1)
          omega
      · intro a
        match a with
        | ⟨0, _⟩ =>
          show n - 1 ≤ j.val * 1 + (w 0).val ∧ j.val * 1 + (w 0).val - (n - 1) < n
          omega
    · rw [dif_neg hc, dif_neg]
      intro ha
      have : n - 1 ≤ j.val * 1 + (w 0).val := (ha 0).1
      omega
  exact key ((⟨1, ![n]⟩ : Shape).rowMajor.symm k) _

end Cert.Cox

end
-- ==== Proof.ReferenceRun.lean ====
/- The run of the reference (`reference` of the statement): where the samples with an event are each the last of their bin in the
   order of the sort, its result is the kernel's. -/
module

public import proofs.«01_k».proof.Proof.BinnedRun
public import proofs.«01_k».proof.Proof.Sorted
public import proofs.«01_k».proof.Proof.Gen.ReferenceIdeal.Read
public import proofs.«01_k».proof.Proof.Gen.Pre_separated

@[expose] public section

noncomputable section

namespace Cert.Cox

open Idealize.ShloMosaic hiding ix1 ix2 ix3
open Idealize.ShloMosaic.ValueIdx
open Idealize.ShloMosaic.TcCoe Idealize.SL.Sem
open scoped BigOperators

/-! ## The precondition -/

section Separated

/-- Column 0 of the targets, as a one-axis array. -/
theorem p_times (h₁ : (⟨2, ![16384, 2]⟩ : Shape).Slices ![0, 0] ⟨2, ![16384, 1]⟩)
    (h₂ : (⟨2, ![16384, 1]⟩ : Shape).ShapeCasts ⟨1, ![16384]⟩) (y : FVec Ideal ⟨2, ![16384, 2]⟩ .f32) (i : Fin 16384) :
    shapeCast ⟨1, ![16384]⟩ (extractStridedSlice ⟨2, ![16384, 1]⟩ ![0, 0] y h₁) h₂ (ix1 i) = y (ix2 i 0) := by
  refine (shapeCast_apply _ h₂ (ix1 i) (ix2 i 0) ?_).trans (extractStridedSlice_apply _ y h₁ _ (ix2 i 0) fun a => ?_)
  · rewrite [Shape.rowMajor_val_two, Shape.rowMajor_val_one]
    show i.val * 1 + 0 = i.val
    omega
  · match a with
    | ⟨0, _⟩ => show i.val = 0 + i.val; omega
    | ⟨1, _⟩ => rfl

/-- Column 1 of the targets, as a one-axis array. -/
theorem p_events (h₁ : (⟨2, ![16384, 2]⟩ : Shape).Slices ![0, 1] ⟨2, ![16384, 1]⟩)
    (h₂ : (⟨2, ![16384, 1]⟩ : Shape).ShapeCasts ⟨1, ![16384]⟩) (y : FVec Ideal ⟨2, ![16384, 2]⟩ .f32) (i : Fin 16384) :
    shapeCast ⟨1, ![16384]⟩ (extractStridedSlice ⟨2, ![16384, 1]⟩ ![0, 1] y h₁) h₂ (ix1 i) = y (ix2 i 1) := by
  refine (shapeCast_apply _ h₂ (ix1 i) (ix2 i 0) ?_).trans (extractStridedSlice_apply _ y h₁ _ (ix2 i 1) fun a => ?_)
  · rewrite [Shape.rowMajor_val_two, Shape.rowMajor_val_one]
    show i.val * 1 + 0 = i.val
    omega
  · match a with
    | ⟨0, _⟩ => show i.val = 0 + i.val; omega
    | ⟨1, _⟩ => rfl

open Cert.Pre_separated

/-- The comparison by which the precondition sorts is the strict order of its first components. -/
theorem p_before (a b : Ideal .f32 × Ideal .f32 × Ideal .f32) :
    comparator_f32_f32_f32_d0 (F := Ideal) a b = BitVec.ofBool (decide (a.1 < b.1)) := by
  unfold comparator_f32_f32_f32_d0
  dsimp only
  exact (congrArg₂ (Ideal.cmp (CmpDirection.lt).ordered) (canonical a.1 _ _ Ideal.ofBits_zero_f32)
    (canonical b.1 _ _ Ideal.ofBits_zero_f32)).trans (before_eq a.1 b.1)

/-- What the precondition says: along the samples sorted by decreasing duration, a sample that is followed by another of its own bin has
    no event. -/
theorem separated_eq [Facts] (r : FVec Ideal S16384 .f32) (y : FVec Ideal S16384x2 .f32)
    (h : fn (F := Ideal) r y = fun _ => 1#1) (p q : Fin 16384) (hpq : q.val = p.val + 1) :
    y (ix2 (byTime (fun i => y (ix2 i 0)) p) 1) = 0
      ∨ bin (y (ix2 (byTime (fun i => y (ix2 i 0)) p) 0)) ≠ bin (y (ix2 (byTime (fun i => y (ix2 i 0)) q) 0)) := by
  have hp : p.val < 16383 := by have := q.isLt; omega
  have h1 := congrFun h (ix1 ⟨p.val, hp⟩)
  unfold fn fn_part1 at h1
  dsimp only at h1
  rw [Host.sort3_eq_sortBy] at h1
  dsimp only at h1
  have hbins : ∀ i : Fin 16384, maximumf (minimumf (Host.floor (mulf
      (shapeCast S16384 (extractStridedSlice S16384x1 ![0, 0] y Facts.slices_S16384x2_S16384x1_0_0) Facts.shapeCasts_S16384x1_S16384)
      (broadcastInDim S16384 ![] Facts.bcast_S_S16384 (constant (F := Ideal) S_ .f32 0x46800000#32))))
      (broadcastInDim S16384 ![] Facts.bcast_S_S16384 (constant (F := Ideal) S_ .f32 0x467FFC00#32)))
      (broadcastInDim S16384 ![] Facts.bcast_S_S16384 (constant (F := Ideal) S_ .f32 0x00000000#32)) (ix1 i) = bin (y (ix2 i 0)) := by
    intro i
    rw [← p_times Facts.slices_S16384x2_S16384x1_0_0 Facts.shapeCasts_S16384x1_S16384 y i]
    unfold bin
    rw [← Ideal.ofBits_zero_f32]
    rfl
  have hsort : ∀ (x : FVec Ideal S16384 .f32) (b e : FVec Ideal S16384 .f32) (i : Fin 16384),
      Host.sortBy S16384 0 comparator_f32_f32_f32_d0 (fun j => (Host.negf
        (shapeCast S16384 (extractStridedSlice S16384x1 ![0, 0] y Facts.slices_S16384x2_S16384x1_0_0) Facts.shapeCasts_S16384x1_S16384) j,
        b j, e j)) x (ix1 i) = x (ix1 (byTime (fun i => y (ix2 i 0)) i)) := by
    intro x b e i
    refine sortBy_byTime _ _ x (fun i => y (ix2 i 0)) (fun k k' => ?_) i
    rw [p_before, ← p_times Facts.slices_S16384x2_S16384x1_0_0 Facts.shapeCasts_S16384x1_S16384 y k,
      ← p_times Facts.slices_S16384x2_S16384x1_0_0 Facts.shapeCasts_S16384x1_S16384 y k']
    rfl
  have hfst : ∀ x : FVec Ideal S16384 .f32, extractStridedSlice S16383 ![0] x Facts.slices_S16384_S16383_0 (ix1 ⟨p.val, hp⟩) = x (ix1 p) :=
    fun x => extractStridedSlice_apply _ x _ _ (ix1 p) fun a => by
      match a with
      | ⟨0, _⟩ => show p.val = 0 + p.val; omega
  have hsnd : ∀ x : FVec Ideal S16384 .f32, extractStridedSlice S16383 ![1] x Facts.slices_S16384_S16383_1 (ix1 ⟨p.val, hp⟩) = x (ix1 q) :=
    fun x => extractStridedSlice_apply _ x _ _ (ix1 q) fun a => by
      match a with
      | ⟨0, _⟩ => show q.val = 1 + p.val; omega
  have hor : ∀ u v : BitVec 1, u ||| v = 1#1 → u = 1#1 ∨ v = 1#1 := by decide
  have hcmp : ∀ (P : CmpFPredicate) (u v : FVec Ideal S16383 .f32), cmpf P u v (ix1 ⟨p.val, hp⟩)
      = Ideal.cmp P (u (ix1 ⟨p.val, hp⟩)) (v (ix1 ⟨p.val, hp⟩)) := fun _ _ _ => rfl
  rcases hor _ _ h1 with h2 | h2
  · left
    have hz : broadcastInDim S16383 ![] Facts.bcast_S_S16383 (constant (F := Ideal) S_ .f32 0x00000000#32) (ix1 ⟨p.val, hp⟩)
        = (0 : EReal) := Ideal.ofBits_zero_f32
    rw [hcmp, hz, hfst, hsort, p_events] at h2
    unfold Ideal.cmp at h2
    by_contra hne
    dsimp only at h2
    rw [decide_eq_false hne] at h2
    exact absurd h2 (by decide)
  · right
    rw [hcmp, hfst, hsnd, hsort, hsort, hbins, hbins] at h2
    unfold Ideal.cmp at h2
    intro heq
    dsimp only at h2
    rw [decide_eq_false (not_not.mpr heq)] at h2
    exact absurd h2 (by decide)

end Separated

/-! ## The reference -/

section Reference

open Cert.ReferenceIdeal Cert.ReferenceIdeal.Gen Cert.ReferenceIdeal.Read

variable (r : FVec Ideal S16384 .f32) (y : FVec Ideal S16384x2 .f32)

/-- The comparison by which the reference sorts is the strict order of its first components. -/
theorem r_before (a b : Ideal .f32 × BitVec 32) :
    comparator_f32_i32_d0 (F := Ideal) a b = BitVec.ofBool (decide (a.1 < b.1)) := by
  unfold comparator_f32_i32_d0
  dsimp only
  exact (congrArg₂ (Ideal.cmp (CmpDirection.lt).ordered) (canonical a.1 _ _ Ideal.ofBits_zero_f32)
    (canonical b.1 _ _ Ideal.ofBits_zero_f32)).trans (before_eq a.1 b.1)

/-- The durations. -/
theorem r_times (i : Fin 16384) : val_main_v1 (F := Ideal) y (ix1 i) = y (ix2 i 0) :=
  p_times _ _ y i

/-- The events. -/
theorem r_events (i : Fin 16384) : val_main_v3 (F := Ideal) y (ix1 i) = y (ix2 i 1) :=
  p_events _ _ y i

/-- The order of the sort: place `p` holds the number of the sample sorted there. -/
theorem r_order (p : Fin 16384) :
    val_main_v5 (F := Ideal) y (ix1 p) = BitVec.ofNat 32 (byTime (fun i => y (ix2 i 0)) p).val := by
  unfold val_main_v5
  rw [Host.sort2_eq_sortBy]
  dsimp only
  refine (sortBy_byTime _ _ _ (fun i => y (ix2 i 0)) (fun k k' => ?_) p).trans (val_main_call0_v0_apply _)
  rw [r_before, val_main_v4_apply, val_main_v4_apply, r_times, r_times]
  rfl

/-- The positions the risk scores are read at. -/
theorem r_place (p : Fin 16384) (u : Fin 1) :
    val_main_v11 (F := Ideal) y (ix2 p u) = BitVec.ofNat 32 (byTime (fun i => y (ix2 i 0)) p).val := by
  have e : idx_main_v11 (ix2 p u) = ix1 p := by funext a; match a with | ⟨0, _⟩ => rfl
  rw [val_main_v11_apply, val_main_v10_apply, val_main_v7_apply, val_main_v9_apply, val_main_v6_apply, val_main_v8_apply,
    val_main_c_apply, val_main_c_0_apply, e, r_order]
  exact wrap_eq _ (byTime _ p).isLt

/-- The positions the events are read at. -/
theorem r_place' (p : Fin 16384) (u : Fin 1) :
    val_main_v18 (F := Ideal) y (ix2 p u) = BitVec.ofNat 32 (byTime (fun i => y (ix2 i 0)) p).val := by
  have e : idx_main_v18 (ix2 p u) = ix1 p := by funext a; match a with | ⟨0, _⟩ => rfl
  rw [val_main_v18_apply, val_main_v17_apply, val_main_v14_apply, val_main_v16_apply, val_main_v13_apply, val_main_v15_apply,
    val_main_c_1_apply, val_main_c_2_apply, e, r_order]
  exact wrap_eq _ (byTime _ p).isLt

/-- The sorted risk scores. -/
theorem r_scores (p : Fin 16384) : val_main_v12 (F := Ideal) r y (ix1 p) = r (ix1 (byTime (fun i => y (ix2 i 0)) p)) :=
  gathered _ rfl rfl rfl rfl (by norm_num) r _ p _ (r_place y p 0)

/-- The sorted events. -/
theorem r_sorted_events (p : Fin 16384) :
    val_main_v19 (F := Ideal) y (ix1 p) = y (ix2 (byTime (fun i => y (ix2 i 0)) p) 1) :=
  (gathered _ rfl rfl rfl rfl (by norm_num) (val_main_v3 (F := Ideal) y) _ p _ (r_place' y p 0)).trans (r_events y _)

/-- The greatest risk score. -/
theorem r_peak (j : S_.Idx) : val_main_v20 (F := Ideal) r y j = peak fun i => r (ix1 i) := by
  unfold val_main_v20
  refine (host_peak _ _ _ rfl _ ofBits_bot j).trans ?_
  exact (congrArg peak (funext fun p => r_scores r y p)).trans
    (peak_comp (byTime fun i => y (ix2 i 0)) (byTime_bijective _) fun i => r (ix1 i))

/-- The sorted weights. -/
theorem r_weights (p : Fin 16384) :
    val_main_v23 (F := Ideal) r y (ix1 p) = weight (fun i => r (ix1 i)) (byTime (fun i => y (ix2 i 0)) p) := by
  rw [val_main_v23_apply, val_main_v22_apply, val_main_v21_apply, r_peak, r_scores, Ideal.hostUnary_exp_def, Ideal.subf_def]
  unfold weight
  with_reducible rfl

/-- The running sums of the sorted weights. -/
theorem r_sums (p : Fin 16384) : val_main_v24 (F := Ideal) r y (ix1 p)
    = prefixSum (byTime fun i => y (ix2 i 0)) (weight fun i => r (ix1 i)) p := by
  unfold val_main_v24 Host.reduceWindowAdd
  have h0 : val_main_call1_call0_v0 (F := Ideal) (Shape.Idx.first h_S_) = (0 : EReal) := by
    rw [val_main_call1_call0_v0_apply, val_main_call1_call0_cst_apply]
    exact Ideal.ofBits_zero_f32
  rw [h0, Ideal.hostReduceWindowAdd_def]
  refine (running_sum (by norm_num) _ _ p).trans ?_
  unfold prefixSum
  exact Finset.sum_congr rfl fun q _ => by rw [r_weights]

/-- The reference's result: the likelihood of the sorted samples with their running sums. -/
theorem r_result (j : S_.Idx) : val_main_v36 (F := Ideal) r y j
    = likelihood (fun p => r (ix1 (byTime (fun i => y (ix2 i 0)) p))) (fun p => y (ix2 (byTime (fun i => y (ix2 i 0)) p) 1))
        (prefixSum (byTime fun i => y (ix2 i 0)) (weight fun i => r (ix1 i))) := by
  have h0 : (FloatOps.ofBits .f32 0x00000000#32 : Ideal .f32) = 0 := Ideal.ofBits_zero_f32
  have hq : (peak fun p => r (ix1 (byTime (fun i => y (ix2 i 0)) p))) = peak fun i => r (ix1 i) :=
    peak_comp _ (byTime_bijective _) fun i => r (ix1 i)
  have hn : val_main_v32 (F := Ideal) r y j = ∑ p : Fin 16384,
      (r (ix1 (byTime (fun i => y (ix2 i 0)) p))
        - (Ideal.log (prefixSum (byTime fun i => y (ix2 i 0)) (weight fun i => r (ix1 i)) p + eps)
          + peak fun p => r (ix1 (byTime (fun i => y (ix2 i 0)) p)))) * y (ix2 (byTime (fun i => y (ix2 i 0)) p) 1) := by
    rw [val_main_v32_apply, val_main_cst_4_apply, h0, zero_add, sum_line, hq]
    refine Finset.sum_congr rfl fun p _ => ?_
    rw [val_main_v31_apply, val_main_v30_apply, val_main_v29_apply, val_main_v28_apply, val_main_v27_apply,
      val_main_v26_apply, val_main_v25_apply, val_main_cst_3_apply, r_sums, r_sorted_events, r_scores, r_peak, Ideal.mulf_def,
      Ideal.subf_def, Ideal.addf_def, Ideal.addf_def, Ideal.hostUnary_log_def]
    unfold eps
    rfl
  have hd : val_main_v35 (F := Ideal) y j = ∑ p : Fin 16384, y (ix2 (byTime (fun i => y (ix2 i 0)) p) 1) + eps := by
    rw [val_main_v35_apply, val_main_v34_apply, val_main_cst_5_apply, val_main_cst_6_apply, h0, zero_add, sum_line,
      Finset.sum_congr rfl fun i _ => r_sorted_events y i]
    rfl
  rw [val_main_v36_apply, val_main_v33_apply, hn, hd]
  rfl

/-- Under the precondition the reference's result is the kernel's. -/
theorem r_binned [Cert.Pre_separated.Facts] (h : Cert.Pre_separated.fn (F := Ideal) r y = fun _ => 1#1) (j : S_.Idx) :
    val_main_v36 (F := Ideal) r y j = binnedLoss r y := by
  rw [r_result]
  unfold binnedLoss
  rw [riskSum_congr (fun i => binNat (y (ix2 i 0))) (fun i => bin (y (ix2 i 0))) fun i j => binNat_le_iff _ _]
  exact likelihood_sorted (byTime fun i => y (ix2 i 0)) (byTime_bijective _) (fun i => bin (y (ix2 i 0)))
    (fun p q hpq => bin_mono (byTime_antitone (fun i => y (ix2 i 0)) hpq)) (fun i => r (ix1 i)) (fun i => y (ix2 i 1))
    fun p q hpq => separated_eq r y h p q hpq

variable (m : (ℓ : Loc nD τ sig) → Buf (Elt Ideal) ℓ)

/-- The run of the reference, with its result, under the precondition. -/
theorem reference_run [Cert.Pre_separated.Facts] (ρ : Dev nD → PrngReg)
    (h : ∀ c : Dev nD, Cert.Pre_separated.fn (F := Ideal) (m ((c.tc : Thread nD τ).loc main_arg0))
      (m ((c.tc : Thread nD τ).loc main_arg1)) = fun _ => 1#1) :
    θ_run defs (onTc (τ := τ) (main (F := Ideal))) ⟨m, fun _ => 0, ρ⟩ (fun r => ∀ c : Dev nD,
      r.2.mem ((c.tc : Thread nD τ).loc main_v36)
        = (fun _ => binnedLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
    ⟨(hr c).1.trans ((val_main_v36_eq m c).trans (funext fun j => r_binned _ _ (h c) j)), (hr c).2.1, (hr c).2.2⟩)
    (Cert.ReferenceIdeal.Value.run m ρ)

end Reference

end Cert.Cox

end
-- ==== Proof.lean ====
/- The claims of `Cert.Defs` about the kernel, the reference, and the likelihood by bin, proved together. The values are in `KernelRun`,
   `BinnedRun` and `ReferenceRun`: each of the three programs ends with `binnedLoss` of its arguments, the reference under its
   precondition. -/
module

public import proofs.«01_k».proof.Defs
public import proofs.«01_k».proof.Proof.Gen.ReferenceIdeal.Read
public import proofs.«01_k».proof.Proof.Gen.BinnedIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.BinnedIdeal
public import proofs.«01_k».proof.Proof.Gen.Pre_separated
public import proofs.«01_k».proof.Proof.ReferenceRun
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and every counter at zero: it has no counter. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems rfl r.2⟩) (Cert.ReferenceIdeal.Value.run m g)

/-- The likelihood by bin ends with its arguments unchanged and every counter at zero: it has no counter. -/
theorem binned_quiescent (m : (ℓ : Loc Cert.BinnedIdeal.nD Cert.BinnedIdeal.τ Cert.BinnedIdeal.sig) → Buf (Elt Ideal) ℓ)
    (g : Dev Cert.BinnedIdeal.nD → PrngReg) :
    θ_run (Cert.BinnedIdeal.defs (F := Ideal)) (onTc (τ := Cert.BinnedIdeal.τ) (Cert.BinnedIdeal.main (F := Ideal)))
      ⟨m, fun _ => 0, g⟩ (fun r => (∀ c : Dev Cert.BinnedIdeal.nD,
        r.2.mem ((c.tc : Thread Cert.BinnedIdeal.nD Cert.BinnedIdeal.τ).loc Cert.BinnedIdeal.main_arg0)
          = m ((c.tc : Thread Cert.BinnedIdeal.nD Cert.BinnedIdeal.τ).loc Cert.BinnedIdeal.main_arg0)
        ∧ r.2.mem ((c.tc : Thread Cert.BinnedIdeal.nD Cert.BinnedIdeal.τ).loc Cert.BinnedIdeal.main_arg1)
          = m ((c.tc : Thread Cert.BinnedIdeal.nD Cert.BinnedIdeal.τ).loc Cert.BinnedIdeal.main_arg1))
        ∧ r.2.sem = fun _ => 0) :=
  (θ_run _ _ _).mono (fun r h => ⟨fun c => (h c).2, sem_eq_zero_of_no_sems rfl r.2⟩) (Cert.BinnedIdeal.Value.run m g)

/-- Under the precondition the kernel and the reference end with equal results. -/
theorem kernel_reference : Cert.algebraic_KernelIdeal_ReferenceIdeal_pre_separated := by
  intro m g m' g' hpre hagree
  refine ⟨_, Cert.Cox.kernel_run m g, ?_⟩
  have hpre' : ∀ c : Dev Cert.ReferenceIdeal.nD, Cert.Pre_separated.fn (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = fun _ => 1#1 := by
    intro c
    rw [(hagree c).1, (hagree c).2]
    exact hpre c
  refine (θ_run _ _ _).mono (fun r h c => ⟨(h c).1.trans ?_, (h c).2⟩) (Cert.Cox.reference_run m' g' hpre')
  rw [(hagree c).1, (hagree c).2]
  rfl

/-- The kernel and the likelihood by bin end with equal results, on every input. -/
theorem kernel_binned : Cert.algebraic_KernelIdeal_BinnedIdeal := by
  intro m g m' g' _ hagree
  refine ⟨_, Cert.Cox.kernel_run m g, ?_⟩
  refine (θ_run _ _ _).mono (fun r h c => ⟨(h c).1.trans ?_, (h c).2⟩) (Cert.Cox.binned_run m' g')
  rw [(hagree c).1, (hagree c).2]
  rfl

/-- Every claim of the certificate. -/
theorem claim : Cert.Claim :=
  ⟨Cert.Kernel.Gen.facts, Cert.KernelIdeal.Gen.facts, Cert.ReferenceIdeal.Gen.facts, Cert.BinnedIdeal.Gen.facts,
    Cert.Pre_separated.Gen.facts,
    fun m g _ => Cert.Kernel.Gen.frame m g,
    fun m g _ => Cert.KernelIdeal.Gen.frame m g,
    fun m g _ => Cert.KernelIdeal.Gen.frame m g,
    fun m g _ => reference_quiescent m g,
    fun m g _ => reference_quiescent m g,
    fun m g _ => binned_quiescent m g,
    trivial,
    kernel_reference,
    kernel_binned⟩

end Cert.Proof

end
